-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 2048]⟩ ⟨2, ![8192, 8192]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![2048]⟩ ⟨1, ![8192]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.block ⟨2, ![8192, 2048]⟩ ⟨2, ![8192, 8192]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x2048 : Shape := ⟨2, ![8192, 2048]⟩
abbrev S2048 : Shape := ⟨1, ![2048]⟩
abbrev S64x128 : Shape := ⟨2, ![64, 128]⟩
abbrev S1024x2048 : Shape := ⟨2, ![1024, 2048]⟩
abbrev S4x64x128 : Shape := ⟨3, ![4, 64, 128]⟩
abbrev S2x3 : Shape := ⟨2, ![2, 3]⟩
abbrev S2x4 : Shape := ⟨2, ![2, 4]⟩
abbrev S_ : Shape := ⟨0, ![]⟩
abbrev S1024 : Shape := ⟨1, ![1024]⟩
abbrev S1024x1 : Shape := ⟨2, ![1024, 1]⟩
abbrev S1024x128 : Shape := ⟨2, ![1024, 128]⟩
abbrev S8x1024 : Shape := ⟨2, ![8, 1024]⟩
abbrev S8x128 : Shape := ⟨2, ![8, 128]⟩
abbrev S1x1 : Shape := ⟨2, ![1, 1]⟩
abbrev S1x32x128 : Shape := ⟨3, ![1, 32, 128]⟩
abbrev S32x128 : Shape := ⟨2, ![32, 128]⟩
abbrev S1x64x128 : Shape := ⟨3, ![1, 64, 128]⟩
abbrev S1x2048 : Shape := ⟨2, ![1, 2048]⟩
abbrev S1024x8 : Shape := ⟨2, ![1024, 8]⟩

abbrev nBuf : Space → Nat
  | .hbm => 6
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S2048, .bf16⟩
  | .hbm, ⟨2, _⟩ => ⟨S64x128, .f32⟩
  | .hbm, ⟨3, _⟩ => ⟨S8192x2048, .bf16⟩
  | .hbm, ⟨4, _⟩ => ⟨S1x2048, .bf16⟩
  | .hbm, ⟨5, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S64x128, .f32⟩
  | .local _ .vmem, ⟨3, _⟩ => ⟨S1024x2048, .bf16⟩
  | .local _ .vmem, ⟨4, _⟩ => ⟨S1024x2048, .bf16⟩
  | .local _ .vmem, ⟨5, _⟩ => ⟨S64x128, .f32⟩
  | .local _ .vmem, ⟨6, _⟩ => ⟨S4x64x128, .f32⟩
  | .local _ .vmem, ⟨7, _⟩ => ⟨S1024x2048, .bf16⟩
  | .local _ .vmem, ⟨8, _⟩ => ⟨S1024x2048, .bf16⟩
  | .local _ .vmem, ⟨9, _⟩ => ⟨S8x128, .f32⟩
  | .local _ .vmem, ⟨10, _⟩ => ⟨S8x128, .f32⟩
  | .local _ .vmem, ⟨11, _⟩ => ⟨S1x2048, .bf16⟩
  | .local _ .vmem, ⟨12, _⟩ => ⟨S1024x2048, .bf16⟩
  | .local _ .vmem, ⟨13, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem3_0 : DmaSem sig := 24
abbrev cc1_sem3_1 : DmaSem sig := 25
abbrev barrier0 : Sem sig := 0

abbrev nD : Nat := 4
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_0 : BitVec 32 := 0#32
  let v5 : BitVec 1 := Scalar.cmpi .ne v4 c0_i32_0
  v5

def k0_dev1 (d0 : Dev nD) : Nat :=
  let c0_i32_29 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_20 : BitVec 32 := 1#32
  let v80 : BitVec 32 := Scalar.addi v2 c1_i32_20
  let c4_i32_21 : BitVec 32 := 4#32
  let c0_i32_22 : BitVec 32 := 0#32
  let v81 : BitVec 1 := Scalar.cmpi .eq c4_i32_21 c0_i32_22
  let c1_i32_23 : BitVec 32 := 1#32
  let v82 : BitVec 32 := Scalar.select v81 c1_i32_23 c4_i32_21
  let v83 : BitVec 32 := Scalar.remsi v80 v82
  let c0_i32_25 : BitVec 32 := 0#32
  let v85 : BitVec 1 := Scalar.cmpi .slt v83 c0_i32_25
  let c0_i32_26 : BitVec 32 := 0#32
  let v86 : BitVec 1 := Scalar.cmpi .slt v82 c0_i32_26
  let v87 : BitVec 1 := Scalar.xori v85 v86
  let c0_i32_24 : BitVec 32 := 0#32
  let v84 : BitVec 1 := Scalar.cmpi .ne v83 c0_i32_24
  let v88 : BitVec 1 := Scalar.andi v87 v84
  let v89 : BitVec 32 := Scalar.addi v83 v82
  let v90 : BitVec 32 := Scalar.select v88 v89 v83
  let c1_i32_28 : BitVec 32 := 1#32
  let v91 : BitVec 32 := Scalar.muli v90 c1_i32_28
  let v92 : BitVec 32 := Scalar.addi c0_i32_29 v91
  v92.toNat
def k0_dev2 (d0 : Dev nD) : Nat :=
  let c0_i32_38 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v93 : BitVec 32 := Scalar.addi v2 c2_i32
  let c4_i32_30 : BitVec 32 := 4#32
  let c0_i32_31 : BitVec 32 := 0#32
  let v94 : BitVec 1 := Scalar.cmpi .eq c4_i32_30 c0_i32_31
  let c1_i32_32 : BitVec 32 := 1#32
  let v95 : BitVec 32 := Scalar.select v94 c1_i32_32 c4_i32_30
  let v96 : BitVec 32 := Scalar.remsi v93 v95
  let c0_i32_34 : BitVec 32 := 0#32
  let v98 : BitVec 1 := Scalar.cmpi .slt v96 c0_i32_34
  let c0_i32_35 : BitVec 32 := 0#32
  let v99 : BitVec 1 := Scalar.cmpi .slt v95 c0_i32_35
  let v100 : BitVec 1 := Scalar.xori v98 v99
  let c0_i32_33 : BitVec 32 := 0#32
  let v97 : BitVec 1 := Scalar.cmpi .ne v96 c0_i32_33
  let v101 : BitVec 1 := Scalar.andi v100 v97
  let v102 : BitVec 32 := Scalar.addi v96 v95
  let v103 : BitVec 32 := Scalar.select v101 v102 v96
  let c1_i32_37 : BitVec 32 := 1#32
  let v104 : BitVec 32 := Scalar.muli v103 c1_i32_37
  let v105 : BitVec 32 := Scalar.addi c0_i32_38 v104
  v105.toNat
def k0_dev3 (d0 : Dev nD) : Nat :=
  let c0_i32_48 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_39 : BitVec 32 := 3#32
  let v106 : BitVec 32 := Scalar.addi v2 c3_i32_39
  let c4_i32_40 : BitVec 32 := 4#32
  let c0_i32_41 : BitVec 32 := 0#32
  let v107 : BitVec 1 := Scalar.cmpi .eq c4_i32_40 c0_i32_41
  let c1_i32_42 : BitVec 32 := 1#32
  let v108 : BitVec 32 := Scalar.select v107 c1_i32_42 c4_i32_40
  let v109 : BitVec 32 := Scalar.remsi v106 v108
  let c0_i32_44 : BitVec 32 := 0#32
  let v111 : BitVec 1 := Scalar.cmpi .slt v109 c0_i32_44
  let c0_i32_45 : BitVec 32 := 0#32
  let v112 : BitVec 1 := Scalar.cmpi .slt v108 c0_i32_45
  let v113 : BitVec 1 := Scalar.xori v111 v112
  let c0_i32_43 : BitVec 32 := 0#32
  let v110 : BitVec 1 := Scalar.cmpi .ne v109 c0_i32_43
  let v114 : BitVec 1 := Scalar.andi v113 v110
  let v115 : BitVec 32 := Scalar.addi v109 v108
  let v116 : BitVec 32 := Scalar.select v114 v115 v109
  let c1_i32_47 : BitVec 32 := 1#32
  let v117 : BitVec 32 := Scalar.muli v116 c1_i32_47
  let v118 : BitVec 32 := Scalar.addi c0_i32_48 v117
  v118.toNat
def k0_off1 (i : grid0.Coords) : Fin 2 → Nat :=
  let arg0 : BitVec 32 := BitVec.ofNat 32 (i 0).val
  let c8_i32 : BitVec 32 := 8#32
  let v67 : BitVec 32 := Scalar.muli arg0 c8_i32
  let v68 : Index := Scalar.indexCast v67
  let c0_15 : Index := 0#32
  ![v68.toNat, 0]
def k0_cond2 (i : grid0.Coords) : BitVec 1 :=
  let arg0 : BitVec 32 := BitVec.ofNat 32 (i 0).val
  let c3_i32 : BitVec 32 := 3#32
  let v73 : BitVec 1 := Scalar.cmpi .eq arg0 c3_i32
  let v74 : BitVec 32 := Scalar.extui v73
  let c0_i32_18 : BitVec 32 := 0#32
  let v75 : BitVec 1 := Scalar.cmpi .ne v74 c0_i32_18
  v75

def k0_off2 (d0 : Dev nD) : Fin 2 → Nat :=
  let c0_i32_28 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![0, v2.toNat]
def k0_off3 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_33 : BitVec 32 := 0#32
  let c0_i32_34 : BitVec 32 := 0#32
  ![v2.toNat, 0, 0]
def k0_dev4 (d0 : Dev nD) : Nat :=
  let c0_i32_32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_21 : BitVec 32 := 1#32
  let v80 : BitVec 32 := Scalar.addi v2 c1_i32_21
  let c4_i32_22 : BitVec 32 := 4#32
  let c0_i32_23 : BitVec 32 := 0#32
  let v81 : BitVec 1 := Scalar.cmpi .eq c4_i32_22 c0_i32_23
  let c1_i32_24 : BitVec 32 := 1#32
  let v82 : BitVec 32 := Scalar.select v81 c1_i32_24 c4_i32_22
  let v83 : BitVec 32 := Scalar.remsi v80 v82
  let c0_i32_26 : BitVec 32 := 0#32
  let v85 : BitVec 1 := Scalar.cmpi .slt v83 c0_i32_26
  let c0_i32_27 : BitVec 32 := 0#32
  let v86 : BitVec 1 := Scalar.cmpi .slt v82 c0_i32_27
  let v87 : BitVec 1 := Scalar.xori v85 v86
  let c0_i32_25 : BitVec 32 := 0#32
  let v84 : BitVec 1 := Scalar.cmpi .ne v83 c0_i32_25
  let v88 : BitVec 1 := Scalar.andi v87 v84
  let v89 : BitVec 32 := Scalar.addi v83 v82
  let v90 : BitVec 32 := Scalar.select v88 v89 v83
  let c1_i32_31 : BitVec 32 := 1#32
  let v91 : BitVec 32 := Scalar.muli v90 c1_i32_31
  let v92 : BitVec 32 := Scalar.addi c0_i32_32 v91
  v92.toNat
def k0_dev5 (d0 : Dev nD) : Nat :=
  let c0_i32_47 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v100 : BitVec 32 := Scalar.addi v2 c2_i32
  let c4_i32_37 : BitVec 32 := 4#32
  let c0_i32_38 : BitVec 32 := 0#32
  let v101 : BitVec 1 := Scalar.cmpi .eq c4_i32_37 c0_i32_38
  let c1_i32_39 : BitVec 32 := 1#32
  let v102 : BitVec 32 := Scalar.select v101 c1_i32_39 c4_i32_37
  let v103 : BitVec 32 := Scalar.remsi v100 v102
  let c0_i32_41 : BitVec 32 := 0#32
  let v105 : BitVec 1 := Scalar.cmpi .slt v103 c0_i32_41
  let c0_i32_42 : BitVec 32 := 0#32
  let v106 : BitVec 1 := Scalar.cmpi .slt v102 c0_i32_42
  let v107 : BitVec 1 := Scalar.xori v105 v106
  let c0_i32_40 : BitVec 32 := 0#32
  let v104 : BitVec 1 := Scalar.cmpi .ne v103 c0_i32_40
  let v108 : BitVec 1 := Scalar.andi v107 v104
  let v109 : BitVec 32 := Scalar.addi v103 v102
  let v110 : BitVec 32 := Scalar.select v108 v109 v103
  let c1_i32_46 : BitVec 32 := 1#32
  let v111 : BitVec 32 := Scalar.muli v110 c1_i32_46
  let v112 : BitVec 32 := Scalar.addi c0_i32_47 v111
  v112.toNat
def k0_dev6 (d0 : Dev nD) : Nat :=
  let c0_i32_63 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_52 : BitVec 32 := 3#32
  let v120 : BitVec 32 := Scalar.addi v2 c3_i32_52
  let c4_i32_53 : BitVec 32 := 4#32
  let c0_i32_54 : BitVec 32 := 0#32
  let v121 : BitVec 1 := Scalar.cmpi .eq c4_i32_53 c0_i32_54
  let c1_i32_55 : BitVec 32 := 1#32
  let v122 : BitVec 32 := Scalar.select v121 c1_i32_55 c4_i32_53
  let v123 : BitVec 32 := Scalar.remsi v120 v122
  let c0_i32_57 : BitVec 32 := 0#32
  let v125 : BitVec 1 := Scalar.cmpi .slt v123 c0_i32_57
  let c0_i32_58 : BitVec 32 := 0#32
  let v126 : BitVec 1 := Scalar.cmpi .slt v122 c0_i32_58
  let v127 : BitVec 1 := Scalar.xori v125 v126
  let c0_i32_56 : BitVec 32 := 0#32
  let v124 : BitVec 1 := Scalar.cmpi .ne v123 c0_i32_56
  let v128 : BitVec 1 := Scalar.andi v127 v124
  let v129 : BitVec 32 := Scalar.addi v123 v122
  let v130 : BitVec 32 := Scalar.select v128 v129 v123
  let c1_i32_62 : BitVec 32 := 1#32
  let v131 : BitVec 32 := Scalar.muli v130 c1_i32_62
  let v132 : BitVec 32 := Scalar.addi c0_i32_63 v131
  v132.toNat
def k0_cond3 (i : grid0.Coords) : BitVec 1 :=
  let arg0 : BitVec 32 := BitVec.ofNat 32 (i 0).val
  let c7_i32 : BitVec 32 := 7#32
  let v76 : BitVec 1 := Scalar.cmpi .eq arg0 c7_i32
  let v77 : BitVec 32 := Scalar.extui v76
  let c0_i32_19 : BitVec 32 := 0#32
  let v78 : BitVec 1 := Scalar.cmpi .ne v77 c0_i32_19
  v78

def k0_off4 (d0 : Dev nD) : Fin 2 → Nat :=
  let c1_i32_27 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![1, v2.toNat]
def k0_off5 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c32_i32 : BitVec 32 := 32#32
  let c0_i32_32 : BitVec 32 := 0#32
  ![v2.toNat, 32, 0]
def k0_dev7 (d0 : Dev nD) : Nat :=
  let c0_i32_31 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_20 : BitVec 32 := 1#32
  let v79 : BitVec 32 := Scalar.addi v2 c1_i32_20
  let c4_i32_21 : BitVec 32 := 4#32
  let c0_i32_22 : BitVec 32 := 0#32
  let v80 : BitVec 1 := Scalar.cmpi .eq c4_i32_21 c0_i32_22
  let c1_i32_23 : BitVec 32 := 1#32
  let v81 : BitVec 32 := Scalar.select v80 c1_i32_23 c4_i32_21
  let v82 : BitVec 32 := Scalar.remsi v79 v81
  let c0_i32_25 : BitVec 32 := 0#32
  let v84 : BitVec 1 := Scalar.cmpi .slt v82 c0_i32_25
  let c0_i32_26 : BitVec 32 := 0#32
  let v85 : BitVec 1 := Scalar.cmpi .slt v81 c0_i32_26
  let v86 : BitVec 1 := Scalar.xori v84 v85
  let c0_i32_24 : BitVec 32 := 0#32
  let v83 : BitVec 1 := Scalar.cmpi .ne v82 c0_i32_24
  let v87 : BitVec 1 := Scalar.andi v86 v83
  let v88 : BitVec 32 := Scalar.addi v82 v81
  let v89 : BitVec 32 := Scalar.select v87 v88 v82
  let c1_i32_30 : BitVec 32 := 1#32
  let v90 : BitVec 32 := Scalar.muli v89 c1_i32_30
  let v91 : BitVec 32 := Scalar.addi c0_i32_31 v90
  v91.toNat
def k0_dev8 (d0 : Dev nD) : Nat :=
  let c0_i32_45 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v99 : BitVec 32 := Scalar.addi v2 c2_i32
  let c4_i32_35 : BitVec 32 := 4#32
  let c0_i32_36 : BitVec 32 := 0#32
  let v100 : BitVec 1 := Scalar.cmpi .eq c4_i32_35 c0_i32_36
  let c1_i32_37 : BitVec 32 := 1#32
  let v101 : BitVec 32 := Scalar.select v100 c1_i32_37 c4_i32_35
  let v102 : BitVec 32 := Scalar.remsi v99 v101
  let c0_i32_39 : BitVec 32 := 0#32
  let v104 : BitVec 1 := Scalar.cmpi .slt v102 c0_i32_39
  let c0_i32_40 : BitVec 32 := 0#32
  let v105 : BitVec 1 := Scalar.cmpi .slt v101 c0_i32_40
  let v106 : BitVec 1 := Scalar.xori v104 v105
  let c0_i32_38 : BitVec 32 := 0#32
  let v103 : BitVec 1 := Scalar.cmpi .ne v102 c0_i32_38
  let v107 : BitVec 1 := Scalar.andi v106 v103
  let v108 : BitVec 32 := Scalar.addi v102 v101
  let v109 : BitVec 32 := Scalar.select v107 v108 v102
  let c1_i32_44 : BitVec 32 := 1#32
  let v110 : BitVec 32 := Scalar.muli v109 c1_i32_44
  let v111 : BitVec 32 := Scalar.addi c0_i32_45 v110
  v111.toNat
def k0_dev9 (d0 : Dev nD) : Nat :=
  let c0_i32_61 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_50 : BitVec 32 := 3#32
  let v119 : BitVec 32 := Scalar.addi v2 c3_i32_50
  let c4_i32_51 : BitVec 32 := 4#32
  let c0_i32_52 : BitVec 32 := 0#32
  let v120 : BitVec 1 := Scalar.cmpi .eq c4_i32_51 c0_i32_52
  let c1_i32_53 : BitVec 32 := 1#32
  let v121 : BitVec 32 := Scalar.select v120 c1_i32_53 c4_i32_51
  let v122 : BitVec 32 := Scalar.remsi v119 v121
  let c0_i32_55 : BitVec 32 := 0#32
  let v124 : BitVec 1 := Scalar.cmpi .slt v122 c0_i32_55
  let c0_i32_56 : BitVec 32 := 0#32
  let v125 : BitVec 1 := Scalar.cmpi .slt v121 c0_i32_56
  let v126 : BitVec 1 := Scalar.xori v124 v125
  let c0_i32_54 : BitVec 32 := 0#32
  let v123 : BitVec 1 := Scalar.cmpi .ne v122 c0_i32_54
  let v127 : BitVec 1 := Scalar.andi v126 v123
  let v128 : BitVec 32 := Scalar.addi v122 v121
  let v129 : BitVec 32 := Scalar.select v127 v128 v122
  let c1_i32_60 : BitVec 32 := 1#32
  let v130 : BitVec 32 := Scalar.muli v129 c1_i32_60
  let v131 : BitVec 32 := Scalar.addi c0_i32_61 v130
  v131.toNat
def k0_off6 (d0 : Dev nD) (c1_i32_66 : BitVec 32) : Fin 2 → Nat :=
  let c0_i32_74 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v139 : BitVec 32 := Scalar.subi v2 c1_i32_66
  let c4_i32_67 : BitVec 32 := 4#32
  let v140 : BitVec 32 := Scalar.addi v139 c4_i32_67
  let c4_i32_68 : BitVec 32 := 4#32
  let c0_i32_69 : BitVec 32 := 0#32
  let v141 : BitVec 1 := Scalar.cmpi .eq c4_i32_68 c0_i32_69
  let c1_i32_70 : BitVec 32 := 1#32
  let v142 : BitVec 32 := Scalar.select v141 c1_i32_70 c4_i32_68
  let v143 : BitVec 32 := Scalar.remsi v140 v142
  let c0_i32_72 : BitVec 32 := 0#32
  let v145 : BitVec 1 := Scalar.cmpi .slt v143 c0_i32_72
  let c0_i32_73 : BitVec 32 := 0#32
  let v146 : BitVec 1 := Scalar.cmpi .slt v142 c0_i32_73
  let v147 : BitVec 1 := Scalar.xori v145 v146
  let c0_i32_71 : BitVec 32 := 0#32
  let v144 : BitVec 1 := Scalar.cmpi .ne v143 c0_i32_71
  let v148 : BitVec 1 := Scalar.andi v147 v144
  let v149 : BitVec 32 := Scalar.addi v143 v142
  let v150 : BitVec 32 := Scalar.select v148 v149 v143
  ![0, v150.toNat]
def k0_off7 (d0 : Dev nD) (c1_i32_66 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v139 : BitVec 32 := Scalar.subi v2 c1_i32_66
  let c4_i32_67 : BitVec 32 := 4#32
  let v140 : BitVec 32 := Scalar.addi v139 c4_i32_67
  let c4_i32_68 : BitVec 32 := 4#32
  let c0_i32_69 : BitVec 32 := 0#32
  let v141 : BitVec 1 := Scalar.cmpi .eq c4_i32_68 c0_i32_69
  let c1_i32_70 : BitVec 32 := 1#32
  let v142 : BitVec 32 := Scalar.select v141 c1_i32_70 c4_i32_68
  let v143 : BitVec 32 := Scalar.remsi v140 v142
  let c0_i32_72 : BitVec 32 := 0#32
  let v145 : BitVec 1 := Scalar.cmpi .slt v143 c0_i32_72
  let c0_i32_73 : BitVec 32 := 0#32
  let v146 : BitVec 1 := Scalar.cmpi .slt v142 c0_i32_73
  let v147 : BitVec 1 := Scalar.xori v145 v146
  let c0_i32_71 : BitVec 32 := 0#32
  let v144 : BitVec 1 := Scalar.cmpi .ne v143 c0_i32_71
  let v148 : BitVec 1 := Scalar.andi v147 v144
  let v149 : BitVec 32 := Scalar.addi v143 v142
  let v150 : BitVec 32 := Scalar.select v148 v149 v143
  let c0_i32_79 : BitVec 32 := 0#32
  let c0_i32_80 : BitVec 32 := 0#32
  ![v150.toNat, 0, 0]
def k0_off8 (d0 : Dev nD) (c1_i32_117 : BitVec 32) : Fin 2 → Nat :=
  let c1_i32_125 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v196 : BitVec 32 := Scalar.subi v2 c1_i32_117
  let c4_i32_118 : BitVec 32 := 4#32
  let v197 : BitVec 32 := Scalar.addi v196 c4_i32_118
  let c4_i32_119 : BitVec 32 := 4#32
  let c0_i32_120 : BitVec 32 := 0#32
  let v198 : BitVec 1 := Scalar.cmpi .eq c4_i32_119 c0_i32_120
  let c1_i32_121 : BitVec 32 := 1#32
  let v199 : BitVec 32 := Scalar.select v198 c1_i32_121 c4_i32_119
  let v200 : BitVec 32 := Scalar.remsi v197 v199
  let c0_i32_123 : BitVec 32 := 0#32
  let v202 : BitVec 1 := Scalar.cmpi .slt v200 c0_i32_123
  let c0_i32_124 : BitVec 32 := 0#32
  let v203 : BitVec 1 := Scalar.cmpi .slt v199 c0_i32_124
  let v204 : BitVec 1 := Scalar.xori v202 v203
  let c0_i32_122 : BitVec 32 := 0#32
  let v201 : BitVec 1 := Scalar.cmpi .ne v200 c0_i32_122
  let v205 : BitVec 1 := Scalar.andi v204 v201
  let v206 : BitVec 32 := Scalar.addi v200 v199
  let v207 : BitVec 32 := Scalar.select v205 v206 v200
  ![1, v207.toNat]
def k0_off9 (d0 : Dev nD) (c1_i32_117 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v196 : BitVec 32 := Scalar.subi v2 c1_i32_117
  let c4_i32_118 : BitVec 32 := 4#32
  let v197 : BitVec 32 := Scalar.addi v196 c4_i32_118
  let c4_i32_119 : BitVec 32 := 4#32
  let c0_i32_120 : BitVec 32 := 0#32
  let v198 : BitVec 1 := Scalar.cmpi .eq c4_i32_119 c0_i32_120
  let c1_i32_121 : BitVec 32 := 1#32
  let v199 : BitVec 32 := Scalar.select v198 c1_i32_121 c4_i32_119
  let v200 : BitVec 32 := Scalar.remsi v197 v199
  let c0_i32_123 : BitVec 32 := 0#32
  let v202 : BitVec 1 := Scalar.cmpi .slt v200 c0_i32_123
  let c0_i32_124 : BitVec 32 := 0#32
  let v203 : BitVec 1 := Scalar.cmpi .slt v199 c0_i32_124
  let v204 : BitVec 1 := Scalar.xori v202 v203
  let c0_i32_122 : BitVec 32 := 0#32
  let v201 : BitVec 1 := Scalar.cmpi .ne v200 c0_i32_122
  let v205 : BitVec 1 := Scalar.andi v204 v201
  let v206 : BitVec 32 := Scalar.addi v200 v199
  let v207 : BitVec 32 := Scalar.select v205 v206 v200
  let c32_i32_130 : BitVec 32 := 32#32
  let c0_i32_131 : BitVec 32 := 0#32
  ![v207.toNat, 32, 0]
def k0_off10 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_200 : BitVec 32 := 0#32
  let c0_i32_201 : BitVec 32 := 0#32
  ![v2.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S8192x8192 : Shape := ⟨2, ![8192, 8192]⟩
abbrev S8192 : Shape := ⟨1, ![8192]⟩
abbrev S_ : Shape := ⟨0, ![]⟩
abbrev S8192x1 : Shape := ⟨2, ![8192, 1]⟩
abbrev S1x8192 : Shape := ⟨2, ![1, 8192]⟩

abbrev nBuf : Space → Nat
  | .hbm => 21
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192, .bf16⟩
  | .hbm, ⟨2, _⟩ => ⟨S8192x8192, .f32⟩
  | .hbm, ⟨3, _⟩ => ⟨S8192, .f32⟩
  | .hbm, ⟨4, _⟩ => ⟨S8192x8192, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S1x8192, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S8192x8192, .bf16⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Proof.Protocol.lean ====
/-
  The exchange of the first kernel as a protocol of rounds, over any float instance.

  Every device holds a 64 × 128 block of partial sums and a receive buffer of four such blocks, one per device. At its first grid
  point a device signals the barrier semaphore of its three peers; at the fourth it waits for their three signals and sends the
  first half of its block to each; at the last it sends the second half, waits for the six halves it is sent, adds, and waits for
  its six sends. What each event hands over:

  * the signal of device p to device c: p's receive slot number c (both halves, at any contents), and that p's two receive
    semaphores for c have not been used yet;
  * the landing of a half of device s on device c: the half slot number s of c, at the half of s's block;
  * the completion of a send: the share of the half that the copy was reading.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.Regions
public import Idealize.ShloMosaic.Lib.Pipeline.RegionTalk
public import Idealize.ShloMosaic.Lib.Pipeline.Kit
public import Idealize.ShloMosaic.Lib.Rounds
public import Idealize.ShloMosaic.Lib.Tactic
public import Idealize.ShloMosaic.Lib.ValueIdxCore
public import Idealize.ShloMosaic.Lib.ViewIndex

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-! ## The resource algebra: the pipeline's rounds, and the exchange's (duties numbered by `Fin 4`) -/

abbrev UX : Type := URounds (GSem nD τ sig) (Fin 4)
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

/-! ## The ring of devices -/

/-- The device `d` places after `c`. -/
def pr (c : Dev nD) (d : ℕ) : Dev nD := ⟨(c.val + d) % 4, Nat.mod_lt _ (by decide)⟩

/-- The device `k + 1` places after `c`: the peer of the `k`-th signal and of the `k`-th send of a half. -/
def nx (c : Dev nD) (k : Fin 3) : Dev nD := pr c (k.val + 1)

theorem nx_ne (c : Dev nD) (k : Fin 3) : nx c k ≠ c := by revert c k; decide
theorem ne_nx (c : Dev nD) (k : Fin 3) : c ≠ nx c k := fun h => nx_ne c k h.symm
theorem nx_inj (k : Fin 3) : Function.Injective fun c => nx c k := by revert k; decide
theorem pr_nx (c : Dev nD) (k : Fin 3) : pr (nx c k) (4 - k.succ.val) = c := by revert c k; decide

/-! ## The memrefs and cells -/

abbrev accM : Memref sig .tc .vmem S64x128 .f32 := Memref.whole cc0_scratch0
abbrev commM : Memref sig .tc .vmem S4x64x128 .f32 := Memref.whole cc0_scratch1

theorem half_inb (r : Fin 2) : ∀ a, (![32 * r.val, 0] : Fin 2 → ℕ) a + S32x128.size a ≤ S64x128.size a := by revert r; decide
theorem slot_inb (s : Fin 4) (r : Fin 2) : ∀ a, (![s.val, 32 * r.val, 0] : Fin 3 → ℕ) a + S1x32x128.size a ≤ S4x64x128.size a := by revert s r; decide

/-- Half `r` of the block of partial sums. -/
def halfM (r : Fin 2) : Memref sig .tc .vmem S32x128 .f32 :=
  accM.slice (Rect.unit (s := S64x128) ![32 * r.val, 0] S32x128.size (half_inb r)) (fun _ => rfl)
/-- Half `r` of slot `s` of the receive buffer. -/
def slotM (s : Fin 4) (r : Fin 2) : Memref sig .tc .vmem S32x128 .f32 :=
  (commM.slice (Rect.unit (s := S4x64x128) ![s.val, 32 * r.val, 0] S1x32x128.size (slot_inb s r)) (fun _ => rfl)).squeeze S32x128 squeezes_S1x32x128_S32x128

/-- The barrier semaphore. -/
abbrev barS : Sem sig := (SemArray.scalar (sig.barrier 0 rfl) : Sems sig S_).sem
/-- The send semaphore of half `r` to the device `k + 1` places on. -/
def sendS (r : Fin 2) (k : Fin 3) : DmaSem sig := ⟨5 + (3 * r.val + k.val), by have := r.isLt; have := k.isLt; show _ < 26; omega⟩
/-- The receive semaphore of half `r` from device `s`. -/
def recvS (r : Fin 2) (s : Fin 4) : DmaSem sig := ⟨5 + (6 + (4 * r.val + s.val)), by have := r.isLt; have := s.isLt; show _ < 26; omega⟩

theorem send_sem_eq (off : Fin 2 → ℕ) (r : Fin 2) (k : Fin 3) (h : off = ![r.val, k.val]) (inb : ∀ a, off a + S1x1.size a ≤ S2x3.size a) :
    ((cc0_scratch2.slice (Rect.unit (s := S2x3) off S1x1.size inb)).squeeze S_ squeezes_S1x1_S_).sem = sendS r k := by
  subst h; revert r k; decide
theorem recv_sem_eq (off : Fin 2 → ℕ) (r : Fin 2) (s : Fin 4) (h : off = ![r.val, s.val]) (inb : ∀ a, off a + S1x1.size a ≤ S2x4.size a) :
    ((cc0_scratch3.slice (Rect.unit (s := S2x4) off S1x1.size inb)).squeeze S_ squeezes_S1x1_S_).sem = recvS r s := by
  subst h; revert r s; decide

theorem half_eq (off : Fin 2 → ℕ) (r : Fin 2) (h : off = ![32 * r.val, 0]) (inb : ∀ a, off a + S32x128.size a ≤ S64x128.size a) :
    accM.slice (Rect.unit (s := S64x128) off S32x128.size inb) (fun _ => rfl) = halfM r := by
  subst h; rfl
theorem slot_eq (off : Fin 3 → ℕ) (s : Fin 4) (r : Fin 2) (h : off = ![s.val, 32 * r.val, 0]) (inb : ∀ a, off a + S1x32x128.size a ≤ S4x64x128.size a) :
    (commM.slice (Rect.unit (s := S4x64x128) off S1x32x128.size inb) (fun _ => rfl)).squeeze S32x128 squeezes_S1x32x128_S32x128 = slotM s r := by
  subst h; rfl

abbrev barCell (c : Dev nD) : GSem nD τ sig := ((c : Thread nD τ), .reg barS)
abbrev sendCell (c : Dev nD) (r : Fin 2) (k : Fin 3) : GSem nD τ sig := ((c : Thread nD τ), .dma (sendS r k))
abbrev recvCell (c : Dev nD) (r : Fin 2) (s : Fin 4) : GSem nD τ sig := ((c : Thread nD τ), .dma (recvS r s))

/-- What a semaphore is for. -/
inductive Role where
  | bar
  | send (r : Fin 2) (k : Fin 3)
  | recv (r : Fin 2) (s : Fin 4)
  | other
  deriving DecidableEq

def role : SemLoc sig → Role
  | .reg _ => .bar
  | .dma q =>
    if 5 ≤ q.val ∧ q.val < 11 then .send ⟨(q.val - 5) / 3 % 2, Nat.mod_lt _ (by decide)⟩ ⟨(q.val - 5) % 3, Nat.mod_lt _ (by decide)⟩
    else if 11 ≤ q.val ∧ q.val < 19 then .recv ⟨(q.val - 11) / 4 % 2, Nat.mod_lt _ (by decide)⟩ ⟨(q.val - 11) % 4, Nat.mod_lt _ (by decide)⟩
    else .other

theorem role_bar : role (.reg barS) = .bar := rfl
theorem role_send (r : Fin 2) (k : Fin 3) : role (.dma (sendS r k)) = .send r k := by fin_cases r <;> fin_cases k <;> rfl
theorem role_recv (r : Fin 2) (s : Fin 4) : role (.dma (recvS r s)) = .recv r s := by fin_cases r <;> fin_cases s <;> rfl

/-- The credit of one half. -/
abbrev N : ℕ := (halfM 0).view.dmaCredit
theorem N_pos : 0 < N := View.dmaCredit_pos _ (by decide)
theorem credit_slot (s : Fin 4) (r : Fin 2) : (slotM s r).view.dmaCredit = N := by fin_cases s <;> fin_cases r <;> rfl

/-! ## Contents -/

/-- The contents of a block of partial sums. -/
abbrev AccC : Type := (cc0_scratch0 : Ref sig .tc).ty.Contents (Elt F)
/-- The contents of a receive buffer. -/
abbrev CommC : Type := (cc0_scratch1 : Ref sig .tc).ty.Contents (Elt F)

/-- The receive buffer with every device's block in its slot. -/
def landed (A : Dev nD → AccC (F := F)) : CommC (F := F) := fun (j : S4x64x128.Idx) => A (j 0) (ix2 (j 1) (j 2))

/-- A half of the block at share `q`. -/
def halfPt (c : Dev nD) (r : Fin 2) (q : PosShare TreeShare) (f : AccC (F := F)) : sProp 𝕄 :=
  (halfM r).view.loc (c : Thread nD τ) ↦[(halfM r).view.set]{q} f
/-- A half slot. -/
def slotPt (c : Dev nD) (s : Fin 4) (r : Fin 2) (f : CommC (F := F)) : sProp 𝕄 :=
  (slotM s r).view.loc (c : Thread nD τ) ↦[(slotM s r).view.set]{fullShare} f

set_option backward.isDefEq.respectTransparency.types false in
instance halfPt_storable (c : Dev nD) (r : Fin 2) (q : PosShare TreeShare) (f : AccC (F := F)) : BI.Storable (upEmb : UEmb _ 𝕄) (halfPt c r q f) := by
  unfold halfPt; infer_instance
set_option backward.isDefEq.respectTransparency.types false in
instance slotPt_storable (c : Dev nD) (s : Fin 4) (r : Fin 2) (f : CommC (F := F)) : BI.Storable (upEmb : UEmb _ 𝕄) (slotPt c s r f) := by
  unfold slotPt; infer_instance

/-- The shares of a half: one per send, one kept. -/
def shr : Fin 4 → PosShare TreeShare
  | 0 => fullShare.left.left
  | 1 => fullShare.left.right
  | 2 => fullShare.right.left
  | 3 => fullShare.right.right

theorem half_shares (c : Dev nD) (r : Fin 2) (f : AccC (F := F)) :
    (halfPt c r fullShare f : sProp 𝕄) = iprop((halfPt c r (shr 0) f ∗ halfPt c r (shr 1) f) ∗ (halfPt c r (shr 2) f ∗ halfPt c r (shr 3) f)) := by
  unfold halfPt shr
  have e (q : PosShare TreeShare) : ((halfM r).view.loc (c : Thread nD τ) ↦[(halfM r).view.set]{q} f : sProp 𝕄)
      = iprop(((halfM r).view.loc (c : Thread nD τ) ↦[(halfM r).view.set]{q.left} f) ∗ (halfM r).view.loc (c : Thread nD τ) ↦[(halfM r).view.set]{q.right} f) :=
    BI.Entails.antisymm (pointsTo_share (PosShare.mem_left_op_right q)).1 (pointsTo_share (PosShare.mem_left_op_right q)).2
  rw [e fullShare, e fullShare.left, e fullShare.right]

/-! ## The schedule -/

variable (A : Dev nD → AccC (F := F))

/-- What device `p`'s signal hands device `c`. -/
def barPay (c p : Dev nD) : sProp 𝕄 :=
  iprop((∃ f, slotPt p c 0 f ∗ slotPt p c 1 f) ∗ reached ER (recvCell p 0 c) 0 ∗ reached ER (recvCell p 1 c) 0)

instance barPay_storable (c p : Dev nD) : BI.Storable (upEmb : UEmb _ 𝕄) (barPay c p) := by
  unfold barPay; infer_instance

def dutiesOf (c : Dev nD) : Role → Finset (Fin 4)
  | .bar => {1, 2, 3}
  | .send _ _ => {0}
  | .recv _ s => if s = c then ∅ else {0}
  | .other => ∅

def amountOf : Role → ℕ
  | .bar => 1
  | _ => N

def payOf (c : Dev nD) (d : Fin 4) : Role → sProp 𝕄
  | .bar => barPay c (pr c (4 - d.val))
  | .send r k => halfPt c r (shr k.castSucc) (A c)
  | .recv r s => slotPt c s r (landed A)
  | .other => iprop(emp)

/-- One round on every cell: three duties on a barrier cell (duty `d` paid by the device `d` places before), one on every send
    cell and on every receive cell but the one a device has for itself. -/
def talkRd : Rounds.Schedule (GSem nD τ sig) (Fin 4) 𝕄 where
  duties g r := if r = 0 ∧ g.1.2 = .tc then dutiesOf g.1.1 (role g.2) else ∅
  unitless _ := False
  amount g _ _ := amountOf (role g.2)
  payload g _ d := payOf A g.1.1 d (role g.2)
  amount_pos g _ _ _ := by
    cases role g.2
    · exact Nat.one_pos
    all_goals exact N_pos

instance talkRd_payload_storable (g : GSem nD τ sig) (r : ℕ) (d : Fin 4) : BI.Storable (upEmb : UEmb _ 𝕄) ((talkRd A).payload g r d) := by
  show BI.Storable upEmb (payOf A g.1.1 d (role g.2))
  cases role g.2 <;> unfold payOf <;> infer_instance

section Sched
variable (c : Dev nD)

theorem duties_bar : (talkRd A).duties (barCell c) 0 = {1, 2, 3} := by dsimp only [talkRd]; rw [if_pos ⟨rfl, rfl⟩]; rfl
theorem duties_send (r : Fin 2) (k : Fin 3) : (talkRd A).duties (sendCell c r k) 0 = {0} := by
  dsimp only [talkRd]; rw [if_pos ⟨rfl, rfl⟩, role_send]; rfl
theorem duties_recv (r : Fin 2) (s : Fin 4) (h : s ≠ c) : (talkRd A).duties (recvCell c r s) 0 = {0} := by
  dsimp only [talkRd]; rw [if_pos ⟨rfl, rfl⟩, role_recv]; exact if_neg h
theorem duties_later (g : GSem nD τ sig) : ∀ r, 1 ≤ r → (talkRd A).duties g r = ∅ :=
  fun r hr => by dsimp only [talkRd]; exact if_neg fun h => by omega
theorem duties_self (r : Fin 2) : ∀ n, 0 ≤ n → (talkRd A).duties (recvCell c r c) n = ∅ :=
  fun n _ => by
    dsimp only [talkRd]
    by_cases h : n = 0
    · rw [if_pos ⟨h, rfl⟩, role_recv]; exact if_pos rfl
    · exact if_neg fun h' => h h'.1

theorem amount_bar (d : Fin 4) : (talkRd A).amount (barCell c) 0 d = 1 := rfl
theorem amount_send (r : Fin 2) (k : Fin 3) (d : Fin 4) : (talkRd A).amount (sendCell c r k) 0 d = N := by
  dsimp only [talkRd]; rw [role_send]; rfl
theorem amount_recv (r : Fin 2) (s : Fin 4) (d : Fin 4) : (talkRd A).amount (recvCell c r s) 0 d = N := by
  dsimp only [talkRd]; rw [role_recv]; rfl

theorem expect_bar : (talkRd A).expect (barCell c) 0 = 3 := by
  unfold Schedule.expect Schedule.amountOf; rw [duties_bar]; rfl
theorem expect_send (r : Fin 2) (k : Fin 3) : (talkRd A).expect (sendCell c r k) 0 = N := by
  unfold Schedule.expect Schedule.amountOf; rw [duties_send, Finset.sum_singleton, amount_send]
theorem expect_recv (r : Fin 2) (s : Fin 4) (h : s ≠ c) : (talkRd A).expect (recvCell c r s) 0 = N := by
  unfold Schedule.expect Schedule.amountOf; rw [duties_recv A c r s h, Finset.sum_singleton, amount_recv]

theorem payload_bar (d : Fin 4) : (talkRd A).payload (barCell c) 0 d = barPay c (pr c (4 - d.val)) := rfl
theorem payload_send (r : Fin 2) (k : Fin 3) (d : Fin 4) : (talkRd A).payload (sendCell c r k) 0 d = halfPt c r (shr k.castSucc) (A c) := by
  dsimp only [talkRd]; rw [role_send]; rfl
theorem payload_recv (r : Fin 2) (s : Fin 4) (d : Fin 4) : (talkRd A).payload (recvCell c r s) 0 d = slotPt c s r (landed A) := by
  dsimp only [talkRd]; rw [role_recv]; rfl

theorem rest_bar : bigSep ((talkRd A).duties (barCell c) 0 \ ∅) (fun d => (talkRd A).payload (barCell c) 0 d)
    = iprop(barPay c (nx c 2) ∗ barPay c (nx c 1) ∗ barPay c (nx c 0)) := by
  rw [Finset.sdiff_empty, duties_bar, bigSep_eq_bigSepL_of_eq [1, 2, 3] (by decide) (by decide)]
  rfl
theorem rest_send (r : Fin 2) (k : Fin 3) : bigSep ((talkRd A).duties (sendCell c r k) 0 \ ∅) (fun d => (talkRd A).payload (sendCell c r k) 0 d)
    = halfPt c r (shr k.castSucc) (A c) := by
  rw [Finset.sdiff_empty, duties_send, bigSep_singleton, payload_send]
theorem rest_recv (r : Fin 2) (s : Fin 4) (h : s ≠ c) : bigSep ((talkRd A).duties (recvCell c r s) 0 \ ∅) (fun d => (talkRd A).payload (recvCell c r s) 0 d)
    = slotPt c s r (landed A) := by
  rw [Finset.sdiff_empty, duties_recv A c r s h, bigSep_singleton, payload_recv]

end Sched

/-! ## What each device owes, and the levels -/

/-- The cell the `n`-th last payment of device `c` goes to: the three halves 1, the three halves 0, the three signals, each in the
    order 3, 2, 1 of the places. -/
def oweCell (c : Dev nD) (n : ℕ) : GSem nD τ sig :=
  if n < 3 then recvCell (pr c (3 - n)) 1 c else if n < 6 then recvCell (pr c (6 - n)) 0 c else barCell (pr c (9 - n))
def oweAmt (n : ℕ) : ℕ := if n < 6 then N else 1
/-- What device `c` owes with `n` payments to go. -/
def owe (c : Dev nD) : ℕ → CellTallies nD τ sig Unit
  | 0 => 0
  | n + 1 => owe c n + tallyAt (oweCell c n) () (oweAmt n)

def L (g : GSem nD τ sig) : Finset Unit := if g.1.2 = .tc then {()} else ∅
def lvR : Role → ℕ
  | .bar => 1
  | .recv _ _ => 2
  | _ => 0
/-- Barrier cells at 1, receive cells at 2, the rest at 0. -/
def lv (g : GSem nD τ sig) (_ : Unit) : ℕ := lvR (role g.2)

theorem L_of_ne (g : GSem nD τ sig) (h : g.1.2 ≠ .tc) : L g = ∅ := if_neg h
theorem L_tc (c : Dev nD) (sm : SemLoc sig) : L ((c : Thread nD τ), sm) = {()} := if_pos rfl

theorem owe_pos {c : Dev nD} {n : ℕ} {g : GSem nD τ sig} {u : Unit} (h : 0 < owe c n g u) : ∃ i < n, g = oweCell c i := by
  induction n with
  | zero => exact absurd h (Nat.lt_irrefl 0)
  | succ n ih =>
    by_cases hg : g = oweCell c n
    · exact ⟨n, Nat.lt_succ_self n, hg⟩
    · unfold owe at h
      rw [Pi.add_apply, Finsupp.add_apply, tallyAt_apply, if_neg (fun h' => hg h'.1), Nat.add_zero] at h
      obtain ⟨i, hi, e⟩ := ih h
      exact ⟨i, Nat.lt_succ_of_lt hi, e⟩

theorem oweCell_tc (c : Dev nD) (n : ℕ) : (oweCell c n).1.2 = .tc := by
  unfold oweCell; split
  · rfl
  · split <;> rfl
theorem oweCell_lv (c : Dev nD) (n : ℕ) : 1 ≤ lv (oweCell c n) () ∧ (n < 6 → 2 ≤ lv (oweCell c n) ()) := by
  unfold oweCell lv; split
  · dsimp only; rw [role_recv]; exact ⟨Nat.le_succ 1, fun _ => le_refl 2⟩
  · split
    · dsimp only; rw [role_recv]; exact ⟨Nat.le_succ 1, fun _ => le_refl 2⟩
    · exact ⟨le_refl 1, fun h => absurd h (by assumption)⟩

/-- Waiting on a cell at level 0 is allowed whatever is owed. -/
theorem mayWait_low (c : Dev nD) (sm : SemLoc sig) (hq : lvR (role sm) = 0) (n : ℕ) :
    (levAts L lv : sProp 𝕄) ⊢ MayWait (c : Thread nD τ) sm () (owe c n) :=
  MayOwe.of_cut (L := L) (lev := lv) 0 (fun p hp => by rw [Finset.mem_singleton.mp hp, L_tc]; exact Finset.mem_singleton_self _)
    (fun g u hg => by obtain ⟨i, _, rfl⟩ := owe_pos hg; unfold L; rw [if_pos (oweCell_tc c i)]; exact Finset.mem_singleton_self _)
    (fun p hp => by rw [Finset.mem_singleton.mp hp]; exact le_of_eq hq)
    (fun g u hg => by obtain ⟨i, _, rfl⟩ := owe_pos hg; exact (oweCell_lv c i).1)

/-- Waiting on the barrier is allowed once the signals are paid. -/
theorem mayWait_bar (c : Dev nD) : (levAts L lv : sProp 𝕄) ⊢ MayWait (c : Thread nD τ) (.reg barS) () (owe c 6) :=
  MayOwe.of_cut (L := L) (lev := lv) 1 (fun p hp => by rw [Finset.mem_singleton.mp hp, L_tc]; exact Finset.mem_singleton_self _)
    (fun g u hg => by obtain ⟨i, _, rfl⟩ := owe_pos hg; unfold L; rw [if_pos (oweCell_tc c i)]; exact Finset.mem_singleton_self _)
    (fun p hp => by rw [Finset.mem_singleton.mp hp]; exact le_refl _)
    (fun g u hg => by obtain ⟨i, hi, rfl⟩ := owe_pos hg; exact (oweCell_lv c i).2 hi)

/-! ## The cells funded at launch, and the records every device may consult -/

/-- The kernel's own semaphores. -/
abbrev osem : Fin 14 → SemLoc sig := fun q => .dma ⟨5 + q.val, by have := q.isLt; show _ < 26; omega⟩
theorem osem_inj : Function.Injective osem := by decide

theorem osem_send (r : Fin 2) (k : Fin 3) : ∃ q, osem q = .dma (sendS r k) := by revert r k; decide
theorem osem_recv (r : Fin 2) (s : Fin 4) : ∃ q, osem q = .dma (recvS r s) := by revert r s; decide

def barEmb : Dev nD ↪ GSem nD τ sig := ⟨fun c => barCell c, fun _ _ h => congrArg (fun g : GSem nD τ sig => g.1.1) h⟩
def ownEmb : Dev nD × Fin 14 ↪ GSem nD τ sig :=
  ⟨fun x => ((x.1 : Thread nD τ), osem x.2), fun _ _ h =>
    Prod.ext (congrArg (fun g : GSem nD τ sig => g.1.1) h) (osem_inj (congrArg Prod.snd h))⟩

abbrev barCells : Finset (GSem nD τ sig) := Finset.univ.map barEmb
abbrev ownCells : Finset (GSem nD τ sig) := Finset.univ.map ownEmb

theorem bar_mem (c : Dev nD) : barCell c ∈ (barCells ∪ ownCells : Finset (GSem nD τ sig)) :=
  Finset.mem_union_left _ (Finset.mem_map_of_mem barEmb (Finset.mem_univ c))
theorem own_mem (c : Dev nD) (q : Fin 14) : ((c : Thread nD τ), osem q) ∈ (barCells ∪ ownCells : Finset (GSem nD τ sig)) :=
  Finset.mem_union_right _ (Finset.mem_map_of_mem ownEmb (Finset.mem_univ (c, q)))
theorem send_mem (c : Dev nD) (r : Fin 2) (k : Fin 3) : sendCell c r k ∈ (barCells ∪ ownCells : Finset (GSem nD τ sig)) := by
  obtain ⟨q, h⟩ := osem_send r k
  have := own_mem c q; rwa [h] at this
theorem recv_mem (c : Dev nD) (r : Fin 2) (s : Fin 4) : recvCell c r s ∈ (barCells ∪ ownCells : Finset (GSem nD τ sig)) := by
  obtain ⟨q, h⟩ := osem_recv r s
  have := own_mem c q; rwa [h] at this

/-- Every cell's invariant, and that round 0 of every barrier cell is reached. -/
def records (κ : GSem nD τ sig → ℕ) : sProp 𝕄 :=
  iprop((bigSep (barCells ∪ ownCells) fun g => cellInv ER (talkRd A) (κ g) g) ∗ bigSep barCells fun g => reached ER g 0)

instance records_persistent (κ : GSem nD τ sig → ℕ) : BI.Persistent (records A κ) := by unfold records; infer_instance

theorem inv_at (κ : GSem nD τ sig → ℕ) {g : GSem nD τ sig} (hg : g ∈ (barCells ∪ ownCells : Finset (GSem nD τ sig))) :
    records A κ ⊢ cellInv ER (talkRd A) (κ g) g := by
  have h : (bigSep (barCells ∪ ownCells) fun g => (cellInv ER (talkRd A) (κ g) g : sProp 𝕄)) ⊢ cellInv ER (talkRd A) (κ g) g := bigSep_elim hg
  unfold records
  iintro ⟨H, -⟩
  iapply h $$ H
theorem reached_at (κ : GSem nD τ sig → ℕ) (c : Dev nD) : records A κ ⊢ reached ER (barCell c) 0 := by
  have h : (bigSep barCells fun g => (reached ER g 0 : sProp 𝕄)) ⊢ reached ER (barCell c) 0 :=
    bigSep_elim (Finset.mem_map_of_mem barEmb (Finset.mem_univ c))
  unfold records
  iintro ⟨-, H⟩
  iapply h $$ H

/-- That round 0 of every own semaphore of device `c` is reached. -/
def opened (c : Dev nD) : sProp 𝕄 := bigSep Finset.univ fun q : Fin 14 => reached ER ((c : Thread nD τ), osem q) 0
instance opened_persistent (c : Dev nD) : BI.Persistent (opened (F := F) c) := by unfold opened; infer_instance
theorem opened_send (c : Dev nD) (r : Fin 2) (k : Fin 3) : (opened c : sProp 𝕄) ⊢ reached ER (sendCell c r k) 0 := by
  obtain ⟨q, h⟩ := osem_send r k
  unfold opened sendCell; rw [← h]
  exact bigSep_elim (Finset.mem_univ q)
theorem opened_recv (c : Dev nD) (r : Fin 2) (s : Fin 4) : (opened c : sProp 𝕄) ⊢ reached ER (recvCell c r s) 0 := by
  obtain ⟨q, h⟩ := osem_recv r s
  unfold opened recvCell; rw [← h]
  exact bigSep_elim (Finset.mem_univ q)

/-- The tokens of the duties a device pays: its `k`-th signal, its sends, and the landings of its sends. -/
def tokBar (c : Dev nD) (k : Fin 3) : sProp 𝕄 := dutyTok ER (barCell (nx c k)) 0 k.succ
def tokSend (c : Dev nD) (r : Fin 2) (k : Fin 3) : sProp 𝕄 := dutyTok ER (sendCell c r k) 0 0
def tokRecv (c : Dev nD) (r : Fin 2) (k : Fin 3) : sProp 𝕄 := dutyTok ER (recvCell (nx c k) r c) 0 0

end Cert.KernelIdeal.Exchange

end
-- ==== Proof.Vals.lean ====
/-
  Where the halves and slots lie in their buffers, and what the exchange's buffers hold: each device's partial sums, the block
  copied out beside them, the combined sums.
-/
module

public import proofs.«01_k».proof.Proof.Protocol
public import Idealize.ShloMosaic.Lib.ValueLayout

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

/-! ## Where the halves and slots lie -/

/-- A row of a half among the rows of the block. -/
def hrow (r : Fin 2) (i : Fin 32) : Fin 64 := ⟨32 * r.val + i.val, by have := r.isLt; have := i.isLt; omega⟩

theorem halfM_emb (r : Fin 2) (i : S32x128.Idx) : (halfM r).view.emb i = (ix2 (hrow r (i 0)) (i 1) : S64x128.Idx) := by
  refine funext fun a => ?_
  fin_cases a
  · exact Fin.ext (by show 32 * r.val + 1 * (i 0).val = 32 * r.val + (i 0).val; rw [Nat.one_mul])
  · exact Fin.ext (by show 0 + 1 * (i 1).val = (i 1).val; rw [Nat.one_mul, Nat.zero_add])

theorem slotM_emb (s : Fin 4) (r : Fin 2) (i : S32x128.Idx) : (slotM s r).view.emb i = (ix3 s (hrow r (i 0)) (i 1) : S4x64x128.Idx) := by
  have e : Shape.reshapeEquiv squeezes_S1x32x128_S32x128.numel_eq i = (ix3 (0 : Fin 1) (i 0) (i 1) : S1x32x128.Idx) := by
    have hi : i = ix2 (i 0) (i 1) := by funext a; fin_cases a <;> rfl
    exact (congrArg _ hi).trans (reshapeEquiv_ix2_1ab _ _ _)
  have h : (slotM s r).view.emb i
      = (Rect.unit (s := S4x64x128) ![s.val, 32 * r.val, 0] S1x32x128.size (slot_inb s r)).emb (Shape.reshapeEquiv squeezes_S1x32x128_S32x128.numel_eq i) := rfl
  rw [h, e]
  refine funext fun a => ?_
  fin_cases a
  · exact Fin.ext (by show s.val + 1 * 0 = _; rfl)
  · exact Fin.ext (by show 32 * r.val + 1 * (i 0).val = 32 * r.val + (i 0).val; rw [Nat.one_mul])
  · exact Fin.ext (by show 0 + 1 * (i 1).val = (i 1).val; rw [Nat.one_mul, Nat.zero_add])

theorem halfM_mem (r : Fin 2) (j : S64x128.Idx) : j ∈ (halfM r).view.set ↔ (j 0).val / 32 = r.val := by
  constructor
  · intro h
    obtain ⟨i, -, hi⟩ := Finset.mem_map.mp h
    obtain rfl : j = _ := hi.symm.trans (halfM_emb r i)
    show (32 * r.val + (i 0).val) / 32 = r.val
    have : (i 0).val < 32 := (i 0).isLt
    omega
  · intro h
    have h0 : (j 0).val < 64 := (j 0).isLt
    refine Finset.mem_map.mpr ⟨(ix2 (⟨(j 0).val % 32, Nat.mod_lt _ (by decide)⟩ : Fin 32) (j 1) : S32x128.Idx), Finset.mem_univ _, (halfM_emb r _).trans ?_⟩
    funext a
    fin_cases a
    · exact Fin.ext (by show 32 * r.val + (j 0).val % 32 = (j 0).val; omega)
    · rfl

theorem slotM_mem (s : Fin 4) (r : Fin 2) (j : S4x64x128.Idx) : j ∈ (slotM s r).view.set ↔ (j 0 : Fin 4) = s ∧ (j 1).val / 32 = r.val := by
  constructor
  · intro h
    obtain ⟨i, -, hi⟩ := Finset.mem_map.mp h
    obtain rfl : j = _ := hi.symm.trans (slotM_emb s r i)
    refine ⟨rfl, ?_⟩
    show (32 * r.val + (i 0).val) / 32 = r.val
    have : (i 0).val < 32 := (i 0).isLt
    omega
  · rintro ⟨hs, h⟩
    have h0 : (j 1).val < 64 := (j 1).isLt
    refine Finset.mem_map.mpr ⟨(ix2 (⟨(j 1).val % 32, Nat.mod_lt _ (by decide)⟩ : Fin 32) (j 2) : S32x128.Idx), Finset.mem_univ _, (slotM_emb s r _).trans ?_⟩
    funext a
    fin_cases a
    · exact hs.symm
    · exact Fin.ext (by show 32 * r.val + (j 1).val % 32 = (j 1).val; omega)
    · rfl

theorem half_disjoint : Disjoint (halfM 0).view.set (halfM 1).view.set :=
  Finset.disjoint_left.mpr fun (j : S64x128.Idx) h0 h1 => by
    have a := (halfM_mem 0 j).mp h0
    have b := (halfM_mem 1 j).mp h1
    rw [a] at b; exact absurd b (by decide)
theorem half_union : (halfM 0).view.set ∪ (halfM 1).view.set = (Finset.univ : Finset S64x128.Idx) :=
  Finset.eq_univ_of_forall fun (j : S64x128.Idx) => by
    have h0 : (j 0).val < 64 := (j 0).isLt
    by_cases h : (j 0).val < 32
    · exact Finset.mem_union_left _ ((halfM_mem 0 j).mpr (by show _ = 0; omega))
    · exact Finset.mem_union_right _ ((halfM_mem 1 j).mpr (by show _ = 1; omega))

theorem slot_disjoint : ∀ x ∈ (Finset.univ : Finset (Fin 4 × Fin 2)), ∀ y ∈ (Finset.univ : Finset (Fin 4 × Fin 2)), x ≠ y →
    Disjoint (slotM x.1 x.2).view.set (slotM y.1 y.2).view.set := fun x _ y _ hne =>
  Finset.disjoint_left.mpr fun (j : S4x64x128.Idx) h0 h1 => by
    have a := (slotM_mem x.1 x.2 j).mp h0
    have b := (slotM_mem y.1 y.2 j).mp h1
    exact hne (Prod.ext (a.1.symm.trans b.1) (Fin.ext (a.2.symm.trans b.2)))
theorem slot_union : ((Finset.univ : Finset (Fin 4 × Fin 2)).biUnion fun x => (slotM x.1 x.2).view.set) = (Finset.univ : Finset S4x64x128.Idx) :=
  Finset.eq_univ_of_forall fun (j : S4x64x128.Idx) => by
    have h0 : (j 1).val < 64 := (j 1).isLt
    exact Finset.mem_biUnion.mpr ⟨((j 0 : Fin 4), ⟨(j 1).val / 32, by omega⟩), Finset.mem_univ _, (slotM_mem _ _ j).mpr ⟨rfl, rfl⟩⟩

/-- The whole block at a share. -/
def accPt (c : Dev nD) (q : PosShare TreeShare) (f : AccC (F := F)) : sProp 𝕄 :=
  accM.view.loc (c : Thread nD τ) ↦[Finset.univ]{q} f
/-- The whole receive buffer. -/
def commPt (c : Dev nD) (f : CommC (F := F)) : sProp 𝕄 :=
  commM.view.loc (c : Thread nD τ) ↦[Finset.univ]{fullShare} f

theorem acc_split (c : Dev nD) (q : PosShare TreeShare) (f : AccC (F := F)) :
    (accPt c q f : sProp 𝕄) = iprop(halfPt c 0 q f ∗ halfPt c 1 q f) := by
  have h := pointsTo_union (nD := nD) (τ := τ) (sig := sig) (Ix := Unit) (Val := Elt F) (Name := ℕ) (U := UU) (Lvl := ℕ)
    (ℓ := accM.view.loc (c : Thread nD τ)) (q := q) (f := f) half_disjoint
  unfold accPt halfPt
  exact (congrArg (fun S => (accM.view.loc (c : Thread nD τ) ↦[S]{q} f : sProp 𝕄)) half_union.symm).trans (BI.Entails.antisymm h.1 h.2)

theorem comm_split (c : Dev nD) (f : CommC (F := F)) :
    (commPt c f : sProp 𝕄) = iprop(slotPt c c 0 f ∗ slotPt c c 1 f ∗ slotPt c (nx c 0) 0 f ∗ slotPt c (nx c 0) 1 f
      ∗ slotPt c (nx c 1) 0 f ∗ slotPt c (nx c 1) 1 f ∗ slotPt c (nx c 2) 0 f ∗ slotPt c (nx c 2) 1 f) := by
  have h := pointsTo_biUnion (nD := nD) (τ := τ) (sig := sig) (Ix := Unit) (Val := Elt F) (Name := ℕ) (U := UU) (Lvl := ℕ)
    (ℓ := commM.view.loc (c : Thread nD τ)) (q := fullShare) (f := f) (Finset.univ : Finset (Fin 4 × Fin 2)) (fun x => (slotM x.1 x.2).view.set) slot_disjoint
  have e : (bigSep Finset.univ fun x : Fin 4 × Fin 2 => (slotPt c x.1 x.2 f : sProp 𝕄))
      = iprop(slotPt c c 0 f ∗ slotPt c c 1 f ∗ slotPt c (nx c 0) 0 f ∗ slotPt c (nx c 0) 1 f
        ∗ slotPt c (nx c 1) 0 f ∗ slotPt c (nx c 1) 1 f ∗ slotPt c (nx c 2) 0 f ∗ slotPt c (nx c 2) 1 f) := by
    rw [bigSep_eq_bigSepL_of_eq [((c : Fin 4), (0 : Fin 2)), (c, 1), (nx c 0, 0), (nx c 0, 1), (nx c 1, 0), (nx c 1, 1), (nx c 2, 0), (nx c 2, 1)]
      (by clear h; revert c; decide) (by clear h; revert c; decide)]
    rfl
  refine Eq.trans ?_ e
  refine Eq.trans ?_ h
  exact congrArg (fun S => (commM.view.loc (c : Thread nD τ) ↦[S]{fullShare} f : sProp 𝕄)) slot_union.symm

theorem halfPt_congr (c : Dev nD) (r : Fin 2) (q : PosShare TreeShare) (f g : AccC (F := F))
    (h : ∀ j : S64x128.Idx, (j 0).val / 32 = r.val → f j = g j) : (halfPt c r q f : sProp 𝕄) = halfPt c r q g := by
  unfold halfPt
  exact pointsTo_congr fun j hj => h j ((halfM_mem r j).mp hj)
theorem slotPt_congr (c : Dev nD) (s : Fin 4) (r : Fin 2) (f g : CommC (F := F))
    (h : ∀ j : S4x64x128.Idx, (j 0 : Fin 4) = s → f j = g j) : (slotPt c s r f : sProp 𝕄) = slotPt c s r g := by
  unfold slotPt
  exact pointsTo_congr fun j hj => h j ((slotM_mem s r j).mp hj).1

/-! ## The partial sums -/

/-- The packed partial sums of one block of 1024 rows. -/
def piece (X : Vec F S1024x2048 .bf16) : Vec F S8x128 .f32 :=
  k0_pay1 (k0_pay6 X) (iota .tc S8x1024 32 [0] iota_S8x1024_d0_w32) (iota .tc S8x1024 32 [1] iota_S8x1024_d1_w32) 128#32 k0_pay7 k0_pay8

variable (m : (ℓ : Loc nD τ sig) → Buf (Elt F) ℓ)

/-- Block `t` of device `c`'s rows. -/
def xblk (c : Dev nD) (t : Fin cfg0.N) : Vec F S1024x2048 .bf16 :=
  ((cfg0.win 0).blk t).view.read (Elt F) (m ((c : Thread nD τ).loc main_arg0))

/-- The block a row of the partial sums comes from. -/
def tOf (i : Fin 64) : Fin cfg0.N := ⟨i.val / 8, by rw [show cfg0.N = 8 from N_0]; have := i.isLt; omega⟩
def rOf (i : Fin 64) : Fin 8 := ⟨i.val % 8, Nat.mod_lt _ (by decide)⟩

/-- Device `c`'s partial sums, whole. -/
def accF (c : Dev nD) : AccC (F := F) := fun (j : S64x128.Idx) => piece (xblk m c (tOf (j 0))) (ix2 (rOf (j 0)) (j 1))

theorem coords0 : ∀ t : Fin cfg0.N, ((grid0.coords t) 0).val = t.val := by decide

abbrev rowsR (t : Fin cfg0.N) : Rect S64x128 := Rect.unit (s := S64x128) (k0_off1 (grid0.coords t)) S8x128.size (k0_off1_inb (grid0.coords t))

theorem rowsR_emb (t : Fin cfg0.N) (x : S8x128.Idx) :
    (((accM.access (rowsR t)).emb x : S64x128.Idx) 0).val = 8 * t.val + (x 0).val ∧ (((accM.access (rowsR t)).emb x : S64x128.Idx) 1) = x 1 := by
  constructor
  · show (k0_off1 (grid0.coords t)) 0 + 1 * (x 0).val = _
    rw [k0_off1_eq, Nat.one_mul]
    show 8 * ((grid0.coords t) 0).val + _ = _
    rw [coords0]
  · refine Fin.ext ?_
    show (k0_off1 (grid0.coords t)) 1 + 1 * (x 1).val = _
    rw [k0_off1_eq, Nat.one_mul]
    show 0 + _ = _
    rw [Nat.zero_add]

/-- Storing block `t`'s sums keeps the earlier rows and makes the next eight. -/
theorem stored_agree (c : Dev nD) (t : Fin cfg0.N) (b : ℕ) (f : AccC (F := F))
    (h : ∀ j : S64x128.Idx, b ≤ (j 0).val → (j 0).val < 8 * t.val → f j = accF m c j) (j : S64x128.Idx)
    (hb : b ≤ (j 0).val) (hj : (j 0).val < 8 * (t.val + 1)) :
    ((accM.access (rowsR t)).write (Elt F) f (piece (xblk m c t)) Finset.univ : AccC (F := F)) j = accF m c j := by
  by_cases hlt : (j 0).val < 8 * t.val
  · refine (View.write_of_not_mem (v := accM.access (rowsR t)) (f : (accM.access (rowsR t)).ty.Contents (Elt F)) _ _ (i := j) fun hm => ?_).trans (h j hb hlt)
    obtain ⟨x, -, rfl⟩ := Finset.mem_map.mp hm
    have := (rowsR_emb t x).1
    omega
  · have e : (accM.access (rowsR t)).emb (ix2 (⟨(j 0).val - 8 * t.val, by omega⟩ : Fin 8) (j 1) : S8x128.Idx) = j := by
      have := rowsR_emb t (ix2 (⟨(j 0).val - 8 * t.val, by omega⟩ : Fin 8) (j 1) : S8x128.Idx)
      funext a
      fin_cases a
      · exact Fin.ext (this.1.trans (by show 8 * t.val + ((j 0).val - 8 * t.val) = (j 0).val; omega))
      · exact this.2
    have w := View.write_emb_of_mem (v := accM.access (rowsR t)) (f : (accM.access (rowsR t)).ty.Contents (Elt F)) (piece (xblk m c t))
      (Finset.mem_univ (ix2 (⟨(j 0).val - 8 * t.val, by omega⟩ : Fin 8) (j 1) : S8x128.Idx))
    rw [e] at w
    refine w.trans ?_
    have e1 : tOf (j 0) = t := Fin.ext (by show (j 0).val / 8 = t.val; omega)
    have e2 : rOf (j 0) = ⟨(j 0).val - 8 * t.val, by omega⟩ := Fin.ext (by show (j 0).val % 8 = (j 0).val - 8 * t.val; omega)
    show piece (xblk m c t) _ = piece (xblk m c (tOf (j 0))) (ix2 (rOf (j 0)) (j 1))
    rw [e1, e2]

theorem rowsR_hi (t : Fin cfg0.N) (ht : 4 ≤ t.val) : (accM.access (rowsR t)).setOn Finset.univ ⊆ (halfM 1).view.set := fun (j : S64x128.Idx) hj => by
  obtain ⟨x, -, rfl⟩ := Finset.mem_map.mp hj
  refine (halfM_mem 1 _).mpr ?_
  have h1 := (rowsR_emb t x).1
  have h2 : (x 0).val < 8 := (x 0).isLt
  have h3 : t.val < 8 := lt_of_lt_of_eq t.isLt (show cfg0.N = 8 from N_0)
  rw [h1]
  show _ = 1
  omega

/-! ## The combined sums -/

/-- The device's number as the kernel computes it. -/
abbrev idw (c : Dev nD) : BitVec 32 := Scalar.remsi (Scalar.divsi (Dev.word c) 1#32) 4#32

/-- The combination of a device's own sums with the four slots. -/
def total (c : Dev nD) (a : Vec F S64x128 .f32) (s : Fin 4 → Vec F S1x64x128 .f32) : FVec F S64x128 .f32 :=
  k0_pay4 (idw c) (k0_pay3 (idw c) a (s 0) (s 1)) (Scalar.cmpi .eq (idw c) 2#32) (s 2) (s 3)

theorem pay3_0 (v : BitVec 32) (hv : v = 0#32) (a : Vec F S64x128 .f32) (x y z : Vec F S1x64x128 .f32) : k0_pay3 v a x z = k0_pay3 v a y z := by
  subst hv; rfl
theorem pay3_1 (v : BitVec 32) (hv : v = 1#32) (a : Vec F S64x128 .f32) (x y z : Vec F S1x64x128 .f32) : k0_pay3 v a z x = k0_pay3 v a z y := by
  subst hv; rfl
theorem pay4_2 (v : BitVec 32) (hv : v = 2#32) (a : FVec F S64x128 .f32) (x y z : Vec F S1x64x128 .f32) :
    k0_pay4 v a (Scalar.cmpi .eq v 2#32) x z = k0_pay4 v a (Scalar.cmpi .eq v 2#32) y z := by
  subst hv; rfl
theorem pay4_3 (v : BitVec 32) (b : BitVec 1) (hv : v = 3#32) (a : FVec F S64x128 .f32) (x y z : Vec F S1x64x128 .f32) : k0_pay4 v a b z x = k0_pay4 v a b z y := by
  subst hv; rfl

/-- What the own slot holds does not matter. -/
theorem total_congr (c : Dev nD) (a : Vec F S64x128 .f32) (s s' : Fin 4 → Vec F S1x64x128 .f32) (h : ∀ p, p ≠ c → s p = s' p) :
    total c a s = total c a s' := by
  unfold total
  fin_cases c
  · rw [h 1 (by decide), h 2 (by decide), h 3 (by decide), pay3_0 _ (by decide) a (s 0) (s' 0)]
  · rw [h 0 (by decide), h 2 (by decide), h 3 (by decide), pay3_1 _ (by decide) a (s 1) (s' 1)]
  · rw [h 0 (by decide), h 1 (by decide), h 3 (by decide), pay4_2 _ (by decide) _ (s 2) (s' 2)]
  · rw [h 0 (by decide), h 1 (by decide), h 2 (by decide), pay4_3 _ _ (by decide) _ (s 3) (s' 3)]

/-- A device's block as a slot of the receive buffer reads. -/
def slotV (A : Dev nD → AccC (F := F)) (p : Fin 4) : Vec F S1x64x128 .f32 := fun x => A p (ix2 (x 1) (x 2))

/-- The reciprocal roots device `c` leaves. -/
def routF (c : Dev nD) : FVec F S64x128 .f32 := k0_pay2 (total c (accF m c) (slotV (accF m)))

end Cert.KernelIdeal.Exchange

end
-- ==== Proof.Steps.lean ====
/-
  The steps of the exchange, one rule each: a signal, the wait on the barrier, a send, the wait for a landing and the wait for a
  send's completion.
-/
module

public import proofs.«01_k».proof.Proof.Vals

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

abbrev 𝒱₀ : Variants := Variants.none

variable (A : Dev nD → AccC (F := F)) (κ : GSem nD τ sig → ℕ) (c : Dev nD)

abbrev run {α : Type} (p : Prog (TpuEff nD τ sig (Elt F) Λ₀ .tc) α) (Q : α → sProp 𝕄) : sProp 𝕄 :=
  wp frame (wpE (defs₀ (F := F)) 𝒱₀ (c : Thread nD τ) none) Set.univ p Q

/-- The `k`-th signal. -/
theorem run_signal (n : Dev nD) (k : Fin 3) (hn : n = nx c k) (w : ℤ) (hw : w = ((1 : ℕ) : ℤ)) (O O' : CellTallies nD τ sig Unit)
    (hO : O' = O + tallyAt (barCell (nx c k)) () 1) (W : Waits sig Unit) (f : CommC (F := F))
    {α : Type} {Q : α → sProp 𝕄} {p : PUnit → Prog (TpuEff nD τ sig (Elt F) Λ₀ .tc) α} :
    iprop(records A κ ∗ opened c ∗ owes (c : Thread nD τ) O' W ∗ tokBar c k ∗ slotPt c (nx c k) 0 f ∗ slotPt c (nx c k) 1 f)
      ⊢ iprop((owes (c : Thread nD τ) O W -∗ run c (p ⟨⟩) Q) -∗ run c (.op (.semSignal (Dev.tc n) barS w) p) Q) := by
  subst hn hw hO
  iintro ⟨#HI, #Ho, HO, Ht, H0, H1⟩
  unfold tokBar
  iapply (Rounds.wp_signal 𝒱₀ ER (talkRd A) (c : Thread nD τ) none (dst := (nx c k : Thread nD τ)) (sem := barS) (r := 0) (d := k.succ) (κ := κ (barCell (nx c k)))
      (by rw [duties_bar]; revert k; decide) (by rw [amount_bar]) () O rfl) $$ [HO Ht H0 H1]
  · isplitr; · iapply (inv_at A κ (bar_mem _)) $$ HI
    isplitl [HO]; · iexact HO
    isplitl [Ht]; · iexact Ht
    isplitl [H0 H1]
    · rw [payload_bar, pr_nx]; unfold barPay
      isplitl [H0 H1]
      · iexists f; isplitl [H0] <;> iassumption
      isplitr; · iapply (opened_recv c 0 _) $$ Ho
      iapply (opened_recv c 1 _) $$ Ho
    · iapply (reached_at A κ _) $$ HI

/-- The wait on the barrier. -/
theorem run_wait_bar (w : ℤ) (hw : w = ((3 : ℕ) : ℤ)) (W : Waits sig Unit)
    {α : Type} {Q : α → sProp 𝕄} {p : PUnit → Prog (TpuEff nD τ sig (Elt F) Λ₀ .tc) α} :
    iprop(records A κ ∗ levAts L lv ∗ owes (c : Thread nD τ) (owe c 6) W ∗ cred (tallyAt (barCell c) () 3) ∗ atPos ER (barCell c) 0 ∅ 0)
      ⊢ iprop((∀ W', owes (c : Thread nD τ) (owe c 6) W' -∗ atPos ER (barCell c) (0 + 1) ∅ 0
            -∗ barPay c (nx c 2) -∗ barPay c (nx c 1) -∗ barPay c (nx c 0) -∗ run c (p ⟨⟩) Q)
          -∗ run c (.op (.semWait barS w) p) Q) := by
  subst hw
  iintro ⟨#HI, #Hlev, HO, Hc, Hat⟩ Hk
  iapply (Rounds.wp_wait_rest_token 𝒱₀ ER (talkRd A) (c : Thread nD τ) none (κ := κ (barCell c))
      (wpE_semWait_eq 𝒱₀ (c : Thread nD τ) none Set.univ) (Set.mem_univ _) () (O := owe c 6) (W := W) (R := 0) (m := 0) (T := ∅)
      (by rw [Nat.zero_add, expect_bar])) $$ [Hc HO Hat]
  · isplitr; · iapply (inv_at A κ (bar_mem _)) $$ HI
    isplitl [Hc]; · iexact Hc
    isplitl [HO]; · iexact HO
    isplitr; · iapply (mayWait_bar c) $$ Hlev
    iexact Hat
  iintro ⟨HO, Hat, -, Hpay⟩
  ihave Hp := (Entails.of_eq (rest_bar A c)) $$ Hpay
  icases Hp with ⟨H2, H1, H0⟩
  iapply Hk $$ HO Hat H2 H1 H0

/-- What a send writes into the peer's slot is the sender's block. -/
theorem landing (n : Dev nD) (r : Fin 2) (f : CommC (F := F)) :
    ((slotM c r).view.loc (n : Thread nD τ) ↦[(slotM c r).view.set]{fullShare}
        ((slotM c r).view.write (Elt F) f ((halfM r).view.read (Elt F) (A c)) Finset.univ) : sProp 𝕄) = slotPt n c r (landed A) := by
  unfold slotPt
  refine pointsTo_congr fun j hj => ?_
  obtain ⟨i, -, rfl⟩ := Finset.mem_map.mp hj
  refine (View.write_emb_of_mem (v := (slotM c r).view) (f : (slotM c r).view.ty.Contents (Elt F)) ((halfM r).view.read (Elt F) (A c)) (Finset.mem_univ i)).trans ?_
  exact (congrArg (A c) (halfM_emb r i)).trans (congrArg (landed A) (slotM_emb c r i)).symm

/-- The send of half `r` to the device `k + 1` places on. -/
theorem run_send (n : Dev nD) (r : Fin 2) (k : Fin 3) (hn : n = nx c k) {src dst : Memref sig .tc .vmem S32x128 .f32}
    (hs : src = halfM r) (hd : dst = slotM c r) {sS sem : DmaSem sig} (hsS : sS = sendS r k) (hsem : sem = recvS r c)
    (O O' : CellTallies nD τ sig Unit) (hO : O' = O + tallyAt (recvCell (nx c k) r c) () N) (W : Waits sig Unit) (f : CommC (F := F))
    {hsc hsrc hdst hty} {α : Type} {Q : α → sProp 𝕄} {p : PUnit → Prog (TpuEff nD τ sig (Elt F) Λ₀ .tc) α} :
    iprop(records A κ ∗ opened c ∗ reached ER (recvCell (nx c k) r c) 0 ∗ halfPt c r (shr k.castSucc) (A c) ∗ slotPt (nx c k) c r f
        ∗ owes (c : Thread nD τ) O' W ∗ tokSend c r k ∗ tokRecv c r k)
      ⊢ iprop((cred (tallyAt (sendCell c r k) () N) -∗ owes (c : Thread nD τ) O W -∗ run c (p ⟨⟩) Q)
          -∗ run c (.op (.enqueueDma src (.remote (Dev.tc n) dst (.dma sS) hsc) (.dma sem) hsrc hdst hty) p) Q) := by
  subst hn hs hd hsS hsem hO
  iintro ⟨#HI, #Ho, #Hr, Hh, Hsl, HO, Ht, Ht'⟩ Hk
  unfold tokSend tokRecv
  iapply (Rounds.wp_send_pointsTo 𝒱₀ ER (talkRd A) (c : Thread nD τ) none (c' := (nx c k : Thread nD τ))
      (κ₁ := κ (sendCell c r k)) (κ₂ := κ (recvCell (nx c k) r c)) (r₁ := 0) (r₂ := 0) (d₁ := 0) (d₂ := 0) (fd := f) (fs := A c) (q := shr k.castSucc)
      (src := halfM r) (dst := slotM c r) (sS := .dma (sendS r k)) (sem := .dma (recvS r c))
      (by rw [duties_send]; exact Finset.mem_singleton_self _) (by rw [duties_recv _ _ _ _ (ne_nx c k)]; exact Finset.mem_singleton_self _)
      () () N (credit_slot c r) (amount_send A c r k 0) (amount_recv A (nx c k) r c 0) O rfl (W := W)
      (by rw [payload_send]; exact BI.Entails.refl _)
      (by rw [payload_recv, ← landing A c (nx c k) r f])) $$ [Hh Hsl HO Ht Ht']
  · isplitr; · iapply (inv_at A κ (send_mem c r k)) $$ HI
    isplitr; · iapply (inv_at A κ (recv_mem (nx c k) r c)) $$ HI
    isplitl [Hh]; · unfold halfPt; iexact Hh
    isplitl [Hsl]; · unfold slotPt; iexact Hsl
    isplitl [HO]; · iexact HO
    isplitl [Ht]; · iexact Ht
    isplitr; · iapply (opened_send c r k) $$ Ho
    isplitl [Ht']; · iexact Ht'
    iexact Hr
  iintro ⟨Hc, HO⟩
  iapply Hk $$ Hc HO

/-- The wait for the landing of half `r` from the device `k + 1` places on. -/
theorem run_wait_recv (r : Fin 2) (s : Fin 4) (hne : s ≠ c) {src dst : Memref sig .tc .vmem S32x128 .f32} (hN : dst.view.dmaCredit = N)
    {sem : DmaSem sig} (hsem : sem = recvS r s) {h₁ h₂} (W : Waits sig Unit)
    {α : Type} {Q : α → sProp 𝕄} {p : PUnit → Prog (TpuEff nD τ sig (Elt F) Λ₀ .tc) α} :
    iprop(records A κ ∗ owes (c : Thread nD τ) 0 W ∗ cred (tallyAt (recvCell c r s) () N) ∗ atPos ER (recvCell c r s) 0 ∅ 0)
      ⊢ iprop((∀ W', owes (c : Thread nD τ) 0 W' -∗ atPos ER (recvCell c r s) (0 + 1) ∅ 0 -∗ slotPt c s r (landed A) -∗ run c (p ⟨⟩) Q)
          -∗ run c (.op (.waitDma2 sem src dst h₁ h₂) p) Q) := by
  subst hsem
  iintro ⟨#HI, HO, Hc, Hat⟩ Hk
  iapply (Rounds.wp_wait_rest_token 𝒱₀ ER (talkRd A) (c : Thread nD τ) none (κ := κ (recvCell c r s))
      (wpE_waitDma2_eq (src := src) (dst := dst) 𝒱₀ (c : Thread nD τ) none Set.univ) (Set.mem_univ _) () (O := 0) (W := W) (R := 0) (m := 0) (T := ∅)
      (by rw [Nat.zero_add, expect_recv A c r s hne, hN])) $$ [Hc HO Hat]
  · isplitr; · iapply (inv_at A κ (recv_mem c r s)) $$ HI
    isplitl [Hc]; · rw [hN]; iexact Hc
    isplitl [HO]; · iexact HO
    isplitr; · rw [MayWait_zero]; iempintro
    iexact Hat
  iintro ⟨HO, Hat, -, Hpay⟩
  ihave Hp := (Entails.of_eq (rest_recv A c r s hne)) $$ Hpay
  iapply Hk $$ HO Hat Hp

/-- The wait for the completion of the send of half `r` to the device `k + 1` places on. -/
theorem run_wait_send (r : Fin 2) (k : Fin 3) {src dst : Memref sig .tc .vmem S32x128 .f32} (hN : dst.view.dmaCredit = N)
    {sem : DmaSem sig} (hsem : sem = sendS r k) {h₁ h₂} (W : Waits sig Unit)
    {α : Type} {Q : α → sProp 𝕄} {p : PUnit → Prog (TpuEff nD τ sig (Elt F) Λ₀ .tc) α} :
    iprop(records A κ ∗ owes (c : Thread nD τ) 0 W ∗ cred (tallyAt (sendCell c r k) () N) ∗ atPos ER (sendCell c r k) 0 ∅ 0)
      ⊢ iprop((∀ W', owes (c : Thread nD τ) 0 W' -∗ atPos ER (sendCell c r k) (0 + 1) ∅ 0 -∗ halfPt c r (shr k.castSucc) (A c) -∗ run c (p ⟨⟩) Q)
          -∗ run c (.op (.waitDma2 sem src dst h₁ h₂) p) Q) := by
  subst hsem
  iintro ⟨#HI, HO, Hc, Hat⟩ Hk
  iapply (Rounds.wp_wait_rest_token 𝒱₀ ER (talkRd A) (c : Thread nD τ) none (κ := κ (sendCell c r k))
      (wpE_waitDma2_eq (src := src) (dst := dst) 𝒱₀ (c : Thread nD τ) none Set.univ) (Set.mem_univ _) () (O := 0) (W := W) (R := 0) (m := 0) (T := ∅)
      (by rw [Nat.zero_add, expect_send A c r k, hN])) $$ [Hc HO Hat]
  · isplitr; · iapply (inv_at A κ (send_mem c r k)) $$ HI
    isplitl [Hc]; · rw [hN]; iexact Hc
    isplitl [HO]; · iexact HO
    isplitr; · rw [MayWait_zero]; iempintro
    iexact Hat
  iintro ⟨HO, Hat, -, Hpay⟩
  ihave Hp := (Entails.of_eq (rest_send A c r k)) $$ Hpay
  iapply Hk $$ HO Hat Hp

end Cert.KernelIdeal.Exchange

end
-- ==== Proof.Rules.lean ====
/-
  The rules the body of the exchange is run by: accesses to a staged block, a whole load of the two scratch buffers, the waits in
  bundles, and the opening and closing of a device's own semaphore cells.
-/
module

public import proofs.«01_k».proof.Proof.Steps

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

/-! ## Bundles -/

/-- A device's place on its receive cell for the device `k + 1` places on, with the credit for the landing. -/
def rIn (c : Dev nD) (r : Fin 2) (k : Fin 3) : sProp 𝕄 :=
  iprop(cred (tallyAt (recvCell c r (nx c k)) () N) ∗ atPos ER (recvCell c r (nx c k)) 0 ∅ 0)
def rPos (c : Dev nD) (r : Fin 2) (k : Fin 3) : sProp 𝕄 := atPos ER (recvCell c r (nx c k)) (0 + 1) ∅ 0
def sPos (c : Dev nD) (r : Fin 2) (k : Fin 3) : sProp 𝕄 := atPos ER (sendCell c r k) 0 ∅ 0
def sPos1 (c : Dev nD) (r : Fin 2) (k : Fin 3) : sProp 𝕄 := atPos ER (sendCell c r k) (0 + 1) ∅ 0
def sCr (c : Dev nD) (r : Fin 2) (k : Fin 3) : sProp 𝕄 := cred (tallyAt (sendCell c r k) () N)
def barIn (c : Dev nD) : sProp 𝕄 := iprop(cred (tallyAt (barCell c) () 3) ∗ atPos ER (barCell c) 0 ∅ 0)
def barPos (c : Dev nD) : sProp 𝕄 := atPos ER (barCell c) (0 + 1) ∅ 0
def ownPos (c : Dev nD) (r : Fin 2) : sProp 𝕄 := atPos ER (recvCell c r c) 0 ∅ 0
/-- A half slot of the peer's, and that its receive cell is open. -/
def lent (c : Dev nD) (r : Fin 2) (k : Fin 3) : sProp 𝕄 :=
  iprop((∃ f, slotPt (nx c k) c r f) ∗ reached ER (recvCell (nx c k) r c) 0)
def toks (c : Dev nD) (r : Fin 2) (k : Fin 3) : sProp 𝕄 := iprop(tokSend c r k ∗ tokRecv c r k)

theorem barPay_lent (c : Dev nD) (k : Fin 3) : (barPay c (nx c k) : sProp 𝕄) ⊢ iprop(lent c 0 k ∗ lent c 1 k) := by
  unfold barPay lent
  iintro ⟨⟨%f, H0, H1⟩, #Hr0, #Hr1⟩
  isplitl [H0]
  · isplitl [H0]
    · iexists f; iexact H0
    · iexact Hr0
  · isplitl [H1]
    · iexists f; iexact H1
    · iexact Hr1

variable (A : Dev nD → AccC (F := F)) (κ : GSem nD τ sig → ℕ) (c : Dev nD)

/-- What every step may consult. -/
def env : sProp 𝕄 := iprop(records A κ ∗ opened c ∗ levAts L lv)
instance env_persistent : BI.Persistent (env A κ c) := by unfold env; infer_instance

theorem run_bar (w : ℤ) (hw : w = ((3 : ℕ) : ℤ)) (W : Waits sig Unit)
    {α : Type} {Q : α → sProp 𝕄} {p : PUnit → Prog (TpuEff nD τ sig (Elt F) Λ₀ .tc) α} :
    iprop(env A κ c ∗ owes (c : Thread nD τ) (owe c 6) W ∗ barIn c)
      ⊢ iprop((∀ W', owes (c : Thread nD τ) (owe c 6) W' -∗ barPos c -∗ lent c 0 0 -∗ lent c 1 0 -∗ lent c 0 1 -∗ lent c 1 1 -∗ lent c 0 2
            -∗ lent c 1 2 -∗ run c (p ⟨⟩) Q)
          -∗ run c (.op (.semWait barS w) p) Q) := by
  unfold env barIn barPos
  iintro ⟨⟨#HI, #Ho, #Hlev⟩, HO, Hc, Hat⟩ Hk
  iapply (run_wait_bar A κ c w hw W) $$ [HO Hc Hat]
  · isplitr; · iexact HI
    isplitr; · iexact Hlev
    isplitl [HO]; · iexact HO
    isplitl [Hc] <;> iassumption
  iintro %W' HO Hat H2 H1 H0
  ihave H0' := (barPay_lent c 0) $$ H0
  ihave H1' := (barPay_lent c 1) $$ H1
  ihave H2' := (barPay_lent c 2) $$ H2
  icases H0' with ⟨H00, H01⟩
  icases H1' with ⟨H10, H11⟩
  icases H2' with ⟨H20, H21⟩
  iapply Hk $$ HO Hat H00 H01 H10 H11 H20 H21

theorem run_snd (n : Dev nD) (r : Fin 2) (k : Fin 3) (hn : n = nx c k) {src dst : Memref sig .tc .vmem S32x128 .f32}
    (hs : src = halfM r) (hd : dst = slotM c r) {sS sem : DmaSem sig} (hsS : sS = sendS r k) (hsem : sem = recvS r c)
    (O O' : CellTallies nD τ sig Unit) (hO : O' = O + tallyAt (recvCell (nx c k) r c) () N) (W : Waits sig Unit)
    {hsc hsrc hdst hty} {α : Type} {Q : α → sProp 𝕄} {p : PUnit → Prog (TpuEff nD τ sig (Elt F) Λ₀ .tc) α} :
    iprop(env A κ c ∗ lent c r k ∗ halfPt c r (shr k.castSucc) (A c) ∗ owes (c : Thread nD τ) O' W ∗ toks c r k)
      ⊢ iprop((sCr c r k -∗ owes (c : Thread nD τ) O W -∗ run c (p ⟨⟩) Q)
          -∗ run c (.op (.enqueueDma src (.remote (Dev.tc n) dst (.dma sS) hsc) (.dma sem) hsrc hdst hty) p) Q) := by
  unfold env lent toks sCr
  iintro ⟨⟨#HI, #Ho, #Hlev⟩, ⟨⟨%f, Hf⟩, #Hr⟩, Hh, HO, Ht, Ht'⟩ Hk
  iapply (run_send A κ c n r k hn hs hd hsS hsem O O' hO W f) $$ [Hf Hh HO Ht Ht']
  · isplitr; · iexact HI
    isplitr; · iexact Ho
    isplitr; · iexact Hr
    isplitl [Hh]; · iexact Hh
    isplitl [Hf]; · iexact Hf
    isplitl [HO]; · iexact HO
    isplitl [Ht] <;> iassumption
  iexact Hk

theorem run_rcv (r : Fin 2) (k : Fin 3) {src dst : Memref sig .tc .vmem S32x128 .f32} (hN : dst.view.dmaCredit = N)
    {sem : DmaSem sig} (hsem : sem = recvS r (nx c k)) {h₁ h₂} (W : Waits sig Unit)
    {α : Type} {Q : α → sProp 𝕄} {p : PUnit → Prog (TpuEff nD τ sig (Elt F) Λ₀ .tc) α} :
    iprop(env A κ c ∗ owes (c : Thread nD τ) 0 W ∗ rIn c r k)
      ⊢ iprop((∀ W', owes (c : Thread nD τ) 0 W' -∗ rPos c r k -∗ slotPt c (nx c k) r (landed A) -∗ run c (p ⟨⟩) Q)
          -∗ run c (.op (.waitDma2 sem src dst h₁ h₂) p) Q) := by
  unfold env rIn rPos
  iintro ⟨⟨#HI, #Ho, #Hlev⟩, HO, Hc, Hat⟩ Hk
  iapply (run_wait_recv A κ c r (nx c k) (nx_ne c k) hN hsem W) $$ [HO Hc Hat]
  · isplitr; · iexact HI
    isplitl [HO]; · iexact HO
    isplitl [Hc] <;> iassumption
  iexact Hk

theorem run_done (r : Fin 2) (k : Fin 3) {src dst : Memref sig .tc .vmem S32x128 .f32} (hN : dst.view.dmaCredit = N)
    {sem : DmaSem sig} (hsem : sem = sendS r k) {h₁ h₂} (W : Waits sig Unit)
    {α : Type} {Q : α → sProp 𝕄} {p : PUnit → Prog (TpuEff nD τ sig (Elt F) Λ₀ .tc) α} :
    iprop(env A κ c ∗ owes (c : Thread nD τ) 0 W ∗ sCr c r k ∗ sPos c r k)
      ⊢ iprop((∀ W', owes (c : Thread nD τ) 0 W' -∗ sPos1 c r k -∗ halfPt c r (shr k.castSucc) (A c) -∗ run c (p ⟨⟩) Q)
          -∗ run c (.op (.waitDma2 sem src dst h₁ h₂) p) Q) := by
  unfold env sCr sPos sPos1
  iintro ⟨⟨#HI, #Ho, #Hlev⟩, HO, Hc, Hat⟩ Hk
  iapply (run_wait_send A κ c r k hN hsem W) $$ [HO Hc Hat]
  · isplitr; · iexact HI
    isplitl [HO]; · iexact HO
    isplitl [Hc] <;> iassumption
  iexact Hk

/-! ## Accesses to a whole memref -/

theorem run_load_whole {s : Shape} {e : EltTy} (M : Memref sig .tc .vmem s e) {off : Fin s.rank → ℕ} (hz : off = fun _ => 0)
    {inb : ∀ a, off a + s.size a ≤ s.size a} (X : s.Idx → Elt F e)
    {hl : M.view.LoadsAt (Rect.unit (s := s) off s.size inb).toLoadRect} {α : Type} {Q : α → sProp 𝕄}
    {p : (s.Idx → Elt F e) → Prog (TpuEff nD τ sig (Elt F) Λ₀ .tc) α} :
    (owns (c : Thread nD τ) M fullShare X : sProp 𝕄)
      ⊢ iprop((owns (c : Thread nD τ) M fullShare X -∗ run c (p X) Q)
          -∗ run c (.op (.load M (Rect.unit (s := s) off s.size inb).toLoadRect hl) p) Q) := by
  unfold owns
  iintro ⟨%f, %hf, Hx⟩ Hk
  iapply (wp_load 𝒱₀ (c : Thread nD τ) none Set.univ (m := M) (S := M.view.set) (View.setOn_subset_set _ _)) $$ Hx
  iintro Hx
  have e1 : M.view.readAt (Elt F) (Rect.unit (s := s) off s.size inb).toLoadRect f = X := by
    refine (View.readAt_eq_ld _ _ _).trans ?_
    rw [hf]; exact View.ld_unit_zero hz inb X
  rw [e1]
  iapply Hk
  iexists f
  isplitr; · ipureintro; exact hf
  iexact Hx

theorem run_store_whole {s : Shape} {e : EltTy} (M : Memref sig .tc .vmem s e) {off : Fin s.rank → ℕ} (hz : off = fun _ => 0)
    {inb : ∀ a, off a + s.size a ≤ s.size a} (X w : s.Idx → Elt F e)
    {hs : (M.access (Rect.unit (s := s) off s.size inb)).Stores Finset.univ} {hx} {α : Type} {Q : α → sProp 𝕄}
    {p : PUnit → Prog (TpuEff nD τ sig (Elt F) Λ₀ .tc) α} :
    (owns (c : Thread nD τ) M fullShare X : sProp 𝕄)
      ⊢ iprop((owns (c : Thread nD τ) M fullShare w -∗ run c (p ⟨⟩) Q)
          -∗ run c (.op (.store M (Rect.unit (s := s) off s.size inb) w Finset.univ hs hx) p) Q) := by
  unfold owns
  iintro ⟨%f, %hf, Hx⟩ Hk
  iapply (wp_store 𝒱₀ (c : Thread nD τ) none Set.univ (m := M) (r := Rect.unit (s := s) off s.size inb) (Mk := Finset.univ) (S := M.view.set)
    (View.set_slice_subset _ _)) $$ Hx
  iintro Hx
  iapply Hk
  iexists _
  isplitr
  rotate_left
  · iexact Hx
  · ipureintro
    subst hz
    funext x
    have h := View.read_slice_write_emb (v := M.view) (Rect.unit (s := s) (fun _ => 0) s.size inb) f w (Finset.mem_univ x)
    have e : (Rect.unit (s := s) (fun _ => 0) s.size inb).emb x = x := Rect.emb_whole_apply s x
    rw [e] at h
    exact h

/-! ## The scratch buffers -/

theorem run_load_acc (q : PosShare TreeShare) (f : AccC (F := F)) {hl} {α : Type} {Q : α → sProp 𝕄}
    {p : Vec F S64x128 .f32 → Prog (TpuEff nD τ sig (Elt F) Λ₀ .tc) α} :
    (accPt c q f : sProp 𝕄)
      ⊢ iprop((accPt c q f -∗ run c (p f) Q)
          -∗ run c (.op (.load accM (Rect.unit (s := S64x128) ![0, 0] S64x128.size inb_S64x128_S64x128_0_0).toLoadRect hl) p) Q) := by
  unfold accPt
  iintro Hx Hk
  iapply (wp_load 𝒱₀ (c : Thread nD τ) none Set.univ (m := accM) (Finset.subset_univ _)) $$ Hx
  iintro Hx
  have e : accM.view.readAt (Elt F) (Rect.unit (s := S64x128) ![0, 0] S64x128.size inb_S64x128_S64x128_0_0).toLoadRect f = f :=
    Memref.readAt_unit_zero (Elt F) cc0_scratch0 (off := (![0, 0] : Fin 2 → ℕ)) (by funext a; fin_cases a <;> rfl) _ f
  rw [e]
  iapply Hk $$ Hx

/-- A slot as a load of the receive buffer reads it. -/
def slotR (g : CommC (F := F)) (p : Fin 4) : Vec F S1x64x128 .f32 := fun x => g (ix3 p (x 1) (x 2) : S4x64x128.Idx)

theorem run_load_comm (g : CommC (F := F)) (s : Fin 4) (off : Fin 3 → ℕ) (h : off = ![s.val, 0, 0]) {inb} {hl} {α : Type} {Q : α → sProp 𝕄}
    {p : Vec F S1x64x128 .f32 → Prog (TpuEff nD τ sig (Elt F) Λ₀ .tc) α} :
    (commPt c g : sProp 𝕄)
      ⊢ iprop((commPt c g -∗ run c (p (slotR g s)) Q)
          -∗ run c (.op (.load commM (Rect.unit (s := S4x64x128) off S1x64x128.size inb).toLoadRect hl) p) Q) := by
  subst h
  unfold commPt
  iintro Hx Hk
  iapply (wp_load 𝒱₀ (c : Thread nD τ) none Set.univ (m := commM) (Finset.subset_univ _)) $$ Hx
  iintro Hx
  have e : commM.view.readAt (Elt F) (Rect.unit (s := S4x64x128) ![s.val, 0, 0] S1x64x128.size inb).toLoadRect g = slotR g s := by
    funext x
    show g _ = g _
    congr 1
    funext a
    have h0 : (x 0).val = 0 := by have : (x 0).val < 1 := (x 0).isLt; omega
    fin_cases a
    · exact Fin.ext (by show s.val + 1 * (x 0).val = s.val; rw [h0]; rfl)
    · exact Fin.ext (by show 0 + 1 * (x 1).val = (x 1).val; omega)
    · exact Fin.ext (by show 0 + 1 * (x 2).val = (x 2).val; omega)
  rw [e]
  iapply Hk $$ Hx

/-- The receive buffer once every landing is in: the peers' blocks in their slots, the own slot as it was. -/
def mixed (f : CommC (F := F)) : CommC (F := F) := fun (j : S4x64x128.Idx) => if (j 0).val = c.val then f j else landed A j

theorem slotR_mixed (f : CommC (F := F)) (p : Fin 4) (h : p ≠ c) : slotR (mixed A c f) p = slotV A p := by
  funext x
  exact if_neg fun e => h (Fin.ext e)

theorem comm_whole (f : CommC (F := F)) :
    iprop((slotPt c c 0 f ∗ slotPt c c 1 f) ∗ (slotPt c (nx c 0) 0 (landed A) ∗ slotPt c (nx c 1) 0 (landed A) ∗ slotPt c (nx c 2) 0 (landed A))
      ∗ slotPt c (nx c 0) 1 (landed A) ∗ slotPt c (nx c 1) 1 (landed A) ∗ slotPt c (nx c 2) 1 (landed A)) ⊢ (commPt c (mixed A c f) : sProp 𝕄) := by
  have ho (r : Fin 2) : (slotPt c c r f : sProp 𝕄) = slotPt c c r (mixed A c f) := slotPt_congr _ _ _ _ _ fun j hj => (if_pos (congrArg Fin.val hj)).symm
  have hl (k : Fin 3) (r : Fin 2) : (slotPt c (nx c k) r (landed A) : sProp 𝕄) = slotPt c (nx c k) r (mixed A c f) :=
    slotPt_congr _ _ _ _ _ fun j hj => (if_neg (fun e => nx_ne c k (hj.symm.trans (Fin.ext e)))).symm
  rw [comm_split, ho 0, ho 1, hl 0 0, hl 0 1, hl 1 0, hl 1 1, hl 2 0, hl 2 1]
  iintro ⟨⟨H0, H1⟩, ⟨H2, H3, H4⟩, H5, H6, H7⟩
  isplitl [H0]; · iexact H0
  isplitl [H1]; · iexact H1
  isplitl [H2]; · iexact H2
  isplitl [H5]; · iexact H5
  isplitl [H3]; · iexact H3
  isplitl [H6]; · iexact H6
  isplitl [H4] <;> iassumption

/-! ## Opening and closing the device's own cells -/

def qS (r : Fin 2) (k : Fin 3) : Fin 14 := ⟨3 * r.val + k.val, by have := r.isLt; have := k.isLt; omega⟩
def qR (r : Fin 2) (s : Fin 4) : Fin 14 := ⟨6 + (4 * r.val + s.val), by have := r.isLt; have := s.isLt; omega⟩

theorem own_list (Φ : Fin 14 → sProp 𝕄) : bigSep Finset.univ Φ = iprop(Φ (qS 0 0) ∗ Φ (qS 0 1) ∗ Φ (qS 0 2) ∗ Φ (qS 1 0) ∗ Φ (qS 1 1) ∗ Φ (qS 1 2)
    ∗ Φ (qR 0 c) ∗ Φ (qR 0 (nx c 0)) ∗ Φ (qR 0 (nx c 1)) ∗ Φ (qR 0 (nx c 2)) ∗ Φ (qR 1 c) ∗ Φ (qR 1 (nx c 0)) ∗ Φ (qR 1 (nx c 1)) ∗ Φ (qR 1 (nx c 2))) := by
  rw [bigSep_eq_bigSepL_of_eq [qS 0 0, qS 0 1, qS 0 2, qS 1 0, qS 1 1, qS 1 2, qR 0 c, qR 0 (nx c 0), qR 0 (nx c 1), qR 0 (nx c 2),
    qR 1 c, qR 1 (nx c 0), qR 1 (nx c 1), qR 1 (nx c 2)] (by revert c; decide) (by revert c; decide)]
  rfl

theorem close_cell {g : GSem nD τ sig} (hg : g ∈ (barCells ∪ ownCells : Finset (GSem nD τ sig))) :
    iprop(records A κ ∗ atPos ER g (0 + 1) ∅ 0) ⊢ (|={Set.univ}=> semVal g 0 : sProp 𝕄) := by
  iintro ⟨#HI, Hat⟩
  iapply (Rounds.cell_close ER (talkRd A) (Set.mem_univ (κ g)) id (duties_later A g))
  isplitr; · iapply (inv_at A κ hg) $$ HI
  iexact Hat
theorem close_own (r : Fin 2) :
    iprop(records A κ ∗ ownPos c r) ⊢ (|={Set.univ}=> semVal (recvCell c r c) 0 : sProp 𝕄) := by
  unfold ownPos
  iintro ⟨#HI, Hat⟩
  iapply (Rounds.cell_close ER (talkRd A) (Set.mem_univ (κ (recvCell c r c))) id (duties_self A c r))
  isplitr; · iapply (inv_at A κ (recv_mem c r c)) $$ HI
  iexact Hat

/-- The fifteen counters back at zero. -/
theorem close_all :
    iprop(env A κ c ∗ barPos c ∗ (sPos1 c 0 0 ∗ sPos1 c 0 1 ∗ sPos1 c 0 2) ∗ (sPos1 c 1 0 ∗ sPos1 c 1 1 ∗ sPos1 c 1 2)
        ∗ (rPos c 0 0 ∗ rPos c 0 1 ∗ rPos c 0 2) ∗ (rPos c 1 0 ∗ rPos c 1 1 ∗ rPos c 1 2) ∗ ownPos c 0 ∗ ownPos c 1)
      ⊢ (|={Set.univ}=> (semVal (barCell c) 0 ∗ Pipeline.ownSems0 osem c) : sProp 𝕄) := by
  unfold env barPos sPos1 rPos
  iintro ⟨⟨#HI, -, -⟩, HB, ⟨S0, S1, S2⟩, ⟨S3, S4, S5⟩, ⟨R0, R1, R2⟩, ⟨R3, R4, R5⟩, O0, O1⟩
  imod (close_cell A κ (bar_mem c)) $$ [HB] with HB
  · isplitr; · iexact HI
    iexact HB
  imod (close_cell A κ (send_mem c 0 0)) $$ [S0] with S0
  · isplitr; · iexact HI
    iexact S0
  imod (close_cell A κ (send_mem c 0 1)) $$ [S1] with S1
  · isplitr; · iexact HI
    iexact S1
  imod (close_cell A κ (send_mem c 0 2)) $$ [S2] with S2
  · isplitr; · iexact HI
    iexact S2
  imod (close_cell A κ (send_mem c 1 0)) $$ [S3] with S3
  · isplitr; · iexact HI
    iexact S3
  imod (close_cell A κ (send_mem c 1 1)) $$ [S4] with S4
  · isplitr; · iexact HI
    iexact S4
  imod (close_cell A κ (send_mem c 1 2)) $$ [S5] with S5
  · isplitr; · iexact HI
    iexact S5
  imod (close_cell A κ (recv_mem c 0 (nx c 0))) $$ [R0] with R0
  · isplitr; · iexact HI
    iexact R0
  imod (close_cell A κ (recv_mem c 0 (nx c 1))) $$ [R1] with R1
  · isplitr; · iexact HI
    iexact R1
  imod (close_cell A κ (recv_mem c 0 (nx c 2))) $$ [R2] with R2
  · isplitr; · iexact HI
    iexact R2
  imod (close_cell A κ (recv_mem c 1 (nx c 0))) $$ [R3] with R3
  · isplitr; · iexact HI
    iexact R3
  imod (close_cell A κ (recv_mem c 1 (nx c 1))) $$ [R4] with R4
  · isplitr; · iexact HI
    iexact R4
  imod (close_cell A κ (recv_mem c 1 (nx c 2))) $$ [R5] with R5
  · isplitr; · iexact HI
    iexact R5
  imod (close_own A κ c 0) $$ [O0] with O0
  · isplitr; · iexact HI
    iexact O0
  imod (close_own A κ c 1) $$ [O1] with O1
  · isplitr; · iexact HI
    iexact O1
  imodintro
  isplitl [HB]; · iexact HB
  unfold Pipeline.ownSems0
  rw [own_list c]
  isplitl [S0]; · iexact S0
  isplitl [S1]; · iexact S1
  isplitl [S2]; · iexact S2
  isplitl [S3]; · iexact S3
  isplitl [S4]; · iexact S4
  isplitl [S5]; · iexact S5
  isplitl [O0]; · iexact O0
  isplitl [R0]; · iexact R0
  isplitl [R1]; · iexact R1
  isplitl [R2]; · iexact R2
  isplitl [O1]; · iexact O1
  isplitl [R3]; · iexact R3
  isplitl [R4]; · iexact R4
  iexact R5

end Cert.KernelIdeal.Exchange

end
-- ==== Proof.Parts.lean ====
/-
  The exchange's body, printed part by printed part: what each part takes and what it leaves.
-/
module

public import proofs.«01_k».proof.Proof.Rules

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (A : Dev nD → AccC (F := F)) (κ : GSem nD τ sig → ℕ) (c : Dev nD)
variable (i : grid0.Coords) (x : Memref sig .tc .vmem S1024x2048 .bf16) (hx : x.IsWhole) (ro : Memref sig .tc .vmem S64x128 .f32) (hro : ro.IsWhole)
  (xb : Memref sig .tc .vmem S1024x2048 .bf16) (hxb : xb.IsWhole) (hA : accM.IsWhole) (hC : commM.IsWhole) (v2 : BitVec 32)

theorem off7_1 : ∀ c : Dev nD, k0_off7 c 1#32 = ![(nx c 2).val, 0, 0] := by decide
theorem off7_2 : ∀ c : Dev nD, k0_off7 c 2#32 = ![(nx c 1).val, 0, 0] := by decide
theorem off7_3 : ∀ c : Dev nD, k0_off7 c 3#32 = ![(nx c 0).val, 0, 0] := by decide
theorem off9_1 : ∀ c : Dev nD, k0_off9 c 1#32 = ![(nx c 2).val, 32, 0] := by decide
theorem off9_2 : ∀ c : Dev nD, k0_off9 c 2#32 = ![(nx c 1).val, 32, 0] := by decide
theorem off9_3 : ∀ c : Dev nD, k0_off9 c 3#32 = ![(nx c 0).val, 32, 0] := by decide

/-- What a landing in a slot credits. -/
theorem slot_credit (off : Fin 3 → ℕ) (s : Fin 4) (r : Fin 2) (h : off = ![s.val, 32 * r.val, 0]) (inb : ∀ a, off a + S1x32x128.size a ≤ S4x64x128.size a) :
    ((commM.slice (Rect.unit (s := S4x64x128) off S1x32x128.size inb) (fun _ => rfl)).squeeze S32x128 squeezes_S1x32x128_S32x128).view.dmaCredit = N := by
  exact (congrArg (fun M => M.view.dmaCredit) (slot_eq off s r h inb)).trans (credit_slot s r)

/-- What a send takes off its semaphore. -/
theorem half_credit (r : Fin 2) : (halfM r).view.dmaCredit = N := by fin_cases r <;> rfl

/-- A finished part. -/
theorem run_ret {c : Dev nD} {α : Type} (a : α) (Q : α → sProp 𝕄) : Q a ⊢ run (F := F) c (.ret a) Q := by
  unfold run; rw [wp_ret]; iintro H; imodintro; iexact H

/-! ## Which devices and offsets the printed words name -/

theorem dev1_val : ∀ c : Dev nD, k0_dev1 c = (nx c 0).val := by decide
theorem dev2_val : ∀ c : Dev nD, k0_dev2 c = (nx c 1).val := by decide
theorem dev3_val : ∀ c : Dev nD, k0_dev3 c = (nx c 2).val := by decide
theorem dev4_val : ∀ c : Dev nD, k0_dev4 c = (nx c 0).val := by decide
theorem dev5_val : ∀ c : Dev nD, k0_dev5 c = (nx c 1).val := by decide
theorem dev6_val : ∀ c : Dev nD, k0_dev6 c = (nx c 2).val := by decide
theorem dev7_val : ∀ c : Dev nD, k0_dev7 c = (nx c 0).val := by decide
theorem dev8_val : ∀ c : Dev nD, k0_dev8 c = (nx c 1).val := by decide
theorem dev9_val : ∀ c : Dev nD, k0_dev9 c = (nx c 2).val := by decide
theorem off6_1 : ∀ c : Dev nD, k0_off6 c 1#32 = ![0, (nx c 2).val] := by decide
theorem off6_2 : ∀ c : Dev nD, k0_off6 c 2#32 = ![0, (nx c 1).val] := by decide
theorem off6_3 : ∀ c : Dev nD, k0_off6 c 3#32 = ![0, (nx c 0).val] := by decide
theorem off8_1 : ∀ c : Dev nD, k0_off8 c 1#32 = ![1, (nx c 2).val] := by decide
theorem off8_2 : ∀ c : Dev nD, k0_off8 c 2#32 = ![1, (nx c 1).val] := by decide
theorem off8_3 : ∀ c : Dev nD, k0_off8 c 3#32 = ![1, (nx c 0).val] := by decide

/-- The first two signals. -/
theorem run_part1 (h1 : k0_cond1 i = 1#1) (W : Waits sig Unit) (f : CommC (F := F))
    {Q : (Σ' (v79 : Sems sig S_) (v108 : BitVec 32) (v109 : BitVec 32) (v110 : BitVec 1), BitVec 32) → sProp 𝕄} :
    iprop(env A κ c ∗ owes (c : Thread nD τ) (owe c 9) W ∗ (tokBar c 0 ∗ slotPt c (nx c 0) 0 f ∗ slotPt c (nx c 0) 1 f)
        ∗ tokBar c 1 ∗ slotPt c (nx c 1) 0 f ∗ slotPt c (nx c 1) 1 f)
      ⊢ iprop((∀ r, ⌜r.1 = (SemArray.scalar (sig.barrier 0 rfl) : Sems sig S_)⌝ -∗ owes (c : Thread nD τ) (owe c 7) W -∗ Q r)
          -∗ run c (k0_part1 i x hx ro hro xb hxb accM hA commM hC cc0_scratch2 cc0_scratch3 c v2 h1) Q) := by
  rw [k0_part1_eq_skeleton]; unfold k0_part1_skel
  simp only [semSignalWord, Prog.lift, Prog.bind_op, Prog.bind_ret, Prog.pure_eq_ret]
  unfold env
  iintro ⟨⟨#HI, #Ho, #Hlev⟩, HO, ⟨T0, X0, Y0⟩, T1, X1, Y1⟩ Hk
  iapply (run_signal A κ c _ 0 (Fin.ext (dev1_val c)) _ rfl (owe c 8) (owe c 9) rfl W f) $$ [HO T0 X0 Y0]
  · isplitr; · iexact HI
    isplitr; · iexact Ho
    isplitl [HO]; · iexact HO
    isplitl [T0]; · iexact T0
    isplitl [X0] <;> iassumption
  iintro HO
  iapply (run_signal A κ c _ 1 (Fin.ext (dev2_val c)) _ rfl (owe c 7) (owe c 8) rfl W f) $$ [HO T1 X1 Y1]
  · isplitr; · iexact HI
    isplitr; · iexact Ho
    isplitl [HO]; · iexact HO
    isplitl [T1]; · iexact T1
    isplitl [X1] <;> iassumption
  iintro HO
  iapply run_ret
  iapply Hk $$ %_ %rfl HO

/-- The barrier, and the first half to the first peer. -/
theorem run_part2 (h2 : k0_cond2 i = 1#1) (W : Waits sig Unit) {Q : BitVec 32 → sProp 𝕄} :
    iprop(env A κ c ∗ owes (c : Thread nD τ) (owe c 6) W ∗ barIn c ∗ halfPt c 0 (shr (Fin.castSucc 0)) (A c) ∗ toks c 0 0)
      ⊢ iprop((∀ v W', owes (c : Thread nD τ) (owe c 5) W' -∗ barPos c -∗ sCr c 0 0 -∗ lent c 1 0 -∗ lent c 0 1 -∗ lent c 1 1 -∗ lent c 0 2 -∗ lent c 1 2 -∗ Q v)
          -∗ run c (k0_part2 i x hx ro hro xb hxb accM hA commM hC cc0_scratch2 cc0_scratch3 c v2 h2) Q) := by
  rw [k0_part2_eq_skeleton]; unfold k0_part2_skel
  simp only [semWaitWord, Prog.lift, Prog.bind_op, Prog.bind_ret, Prog.pure_eq_ret]
  iintro ⟨#He, HO, HB, Hh, Ht⟩ Hk
  iapply (run_bar A κ c _ rfl W) $$ [HO HB]
  · isplitr; · iexact He
    isplitl [HO] <;> iassumption
  iintro %W' HO HB H00 H10 H01 H11 H02 H12
  iapply (run_snd A κ c _ 0 0 (Fin.ext (dev4_val c)) (half_eq _ 0 rfl _) (slot_eq _ c 0 (k0_off3_eq c) _) (send_sem_eq _ 0 0 rfl _) (recv_sem_eq _ 0 c (k0_off2_eq c) _)
    (owe c 5) (owe c 6) rfl W') $$ [H00 Hh HO Ht]
  · isplitr; · iexact He
    isplitl [H00]; · iexact H00
    isplitl [Hh]; · iexact Hh
    isplitl [HO] <;> iassumption
  iintro Hs HO
  iapply run_ret
  iapply Hk $$ HO HB Hs H10 H01 H11 H02 H12

/-- The second half to the first peer. -/
theorem run_part3 (h3 : k0_cond3 i = 1#1) (W : Waits sig Unit) {Q : BitVec 32 → sProp 𝕄} :
    iprop(env A κ c ∗ owes (c : Thread nD τ) (owe c 3) W ∗ lent c 1 0 ∗ halfPt c 1 (shr (Fin.castSucc 0)) (A c) ∗ toks c 1 0)
      ⊢ iprop((∀ v, owes (c : Thread nD τ) (owe c 2) W -∗ sCr c 1 0 -∗ Q v) -∗ run c (k0_part3 i x hx ro hro xb hxb accM hA commM hC cc0_scratch2 cc0_scratch3 c v2 h3) Q) := by
  rw [k0_part3_eq_skeleton]; unfold k0_part3_skel
  simp only [Prog.lift, Prog.bind_op, Prog.bind_ret, Prog.pure_eq_ret]
  iintro ⟨#He, HO, Hl, Hh, Ht⟩ Hk
  iapply (run_snd A κ c _ 1 0 (Fin.ext (dev7_val c)) (half_eq _ 1 rfl _) (slot_eq _ c 1 (k0_off5_eq c) _) (send_sem_eq _ 1 0 rfl _) (recv_sem_eq _ 1 c (k0_off4_eq c) _)
    (owe c 2) (owe c 3) rfl W) $$ [Hl Hh HO Ht]
  · isplitr; · iexact He
    isplitl [Hl]; · iexact Hl
    isplitl [Hh]; · iexact Hh
    isplitl [HO] <;> iassumption
  iintro Hs HO
  iapply run_ret
  iapply Hk $$ HO Hs

/-- The second half to the other two. -/
theorem run_part4 (h3 : k0_cond3 i = 1#1) (v110 : BitVec 32) (W : Waits sig Unit) {Q : (Σ' (v140 : BitVec 32), BitVec 32) → sProp 𝕄} :
    iprop(env A κ c ∗ owes (c : Thread nD τ) (owe c 2) W ∗ (lent c 1 1 ∗ halfPt c 1 (shr (Fin.castSucc 1)) (A c) ∗ toks c 1 1)
        ∗ lent c 1 2 ∗ halfPt c 1 (shr (Fin.castSucc 2)) (A c) ∗ toks c 1 2)
      ⊢ iprop((∀ a b, owes (c : Thread nD τ) 0 W -∗ sCr c 1 1 -∗ sCr c 1 2 -∗ Q ⟨a, b⟩) -∗ run c (k0_part4 i x hx ro hro xb hxb accM hA commM hC cc0_scratch2 cc0_scratch3 c v2 h3 v110) Q) := by
  rw [k0_part4_eq_skeleton]; unfold k0_part4_skel
  simp only [Prog.lift, Prog.bind_op, Prog.bind_ret, Prog.pure_eq_ret]
  iintro ⟨#He, HO, ⟨Hl, Hh, Ht⟩, Hl', Hh', Ht'⟩ Hk
  iapply (run_snd A κ c _ 1 1 (Fin.ext (dev8_val c)) (half_eq _ 1 rfl _) (slot_eq _ c 1 (k0_off5_eq c) _) (send_sem_eq _ 1 1 rfl _) (recv_sem_eq _ 1 c (k0_off4_eq c) _)
    (owe c 1) (owe c 2) rfl W) $$ [Hl Hh HO Ht]
  · isplitr; · iexact He
    isplitl [Hl]; · iexact Hl
    isplitl [Hh]; · iexact Hh
    isplitl [HO] <;> iassumption
  iintro Hs HO
  iapply (run_snd A κ c _ 1 2 (Fin.ext (dev9_val c)) (half_eq _ 1 rfl _) (slot_eq _ c 1 (k0_off5_eq c) _) (send_sem_eq _ 1 2 rfl _) (recv_sem_eq _ 1 c (k0_off4_eq c) _)
    0 (owe c 1) rfl W) $$ [Hl' Hh' HO Ht']
  · isplitr; · iexact He
    isplitl [Hl']; · iexact Hl'
    isplitl [Hh']; · iexact Hh'
    isplitl [HO] <;> iassumption
  iintro Hs' HO
  iapply run_ret
  iapply Hk $$ HO Hs Hs'

/-- The landing of the third peer's first half. -/
theorem run_part5 (h3 : k0_cond3 i = 1#1) (a b : BitVec 32) (W : Waits sig Unit) {Q : PUnit → sProp 𝕄} :
    iprop(env A κ c ∗ owes (c : Thread nD τ) 0 W ∗ rIn c 0 2)
      ⊢ iprop((∀ W', owes (c : Thread nD τ) 0 W' -∗ rPos c 0 2 -∗ slotPt c (nx c 2) 0 (landed A) -∗ Q ⟨⟩) -∗ run c (k0_part5 i x hx ro hro xb hxb accM hA commM hC cc0_scratch2 cc0_scratch3 c v2 h3 a b) Q) := by
  rw [k0_part5_eq_skeleton]; unfold k0_part5_skel
  simp only [Prog.lift, Prog.bind_op, Prog.bind_ret, Prog.pure_eq_ret]
  iintro ⟨#He, HO, Hr⟩ Hk
  iapply (run_rcv A κ c 0 2 (slot_credit _ (nx c 2) 0 (off7_1 c) _) (recv_sem_eq _ 0 (nx c 2) (off6_1 c) _) W) $$ [HO Hr]
  · isplitr; · iexact He
    isplitl [HO] <;> iassumption
  iintro %W1 HO Hp Hs
  iapply run_ret
  iapply Hk $$ HO Hp Hs

/-- The landings of the other two first halves. -/
theorem run_part6 (h3 : k0_cond3 i = 1#1) (W : Waits sig Unit) {Q : (Σ' (v199 : BitVec 32) (v200 : BitVec 32), BitVec 1) → sProp 𝕄} :
    iprop(env A κ c ∗ owes (c : Thread nD τ) 0 W ∗ rIn c 0 1 ∗ rIn c 0 0)
      ⊢ iprop((∀ a b d W', owes (c : Thread nD τ) 0 W' -∗ rPos c 0 1 -∗ slotPt c (nx c 1) 0 (landed A) -∗ rPos c 0 0 -∗ slotPt c (nx c 0) 0 (landed A) -∗ Q ⟨a, b, d⟩)
          -∗ run c (k0_part6 i x hx ro hro xb hxb accM hA commM hC cc0_scratch2 cc0_scratch3 c v2 h3) Q) := by
  rw [k0_part6_eq_skeleton]; unfold k0_part6_skel
  simp only [Prog.lift, Prog.bind_op, Prog.bind_ret, Prog.pure_eq_ret]
  iintro ⟨#He, HO, Hr, Hr'⟩ Hk
  iapply (run_rcv A κ c 0 1 (slot_credit _ (nx c 1) 0 (off7_2 c) _) (recv_sem_eq _ 0 (nx c 1) (off6_2 c) _) W) $$ [HO Hr]
  · isplitr; · iexact He
    isplitl [HO] <;> iassumption
  iintro %W1 HO Hp Hs
  iapply (run_rcv A κ c 0 0 (slot_credit _ (nx c 0) 0 (off7_3 c) _) (recv_sem_eq _ 0 (nx c 0) (off6_3 c) _) W1) $$ [HO Hr']
  · isplitr; · iexact He
    isplitl [HO] <;> iassumption
  iintro %W2 HO Hp' Hs'
  iapply run_ret
  iapply Hk $$ HO Hp Hs Hp' Hs'

/-- The landings of two second halves. -/
theorem run_part7 (h3 : k0_cond3 i = 1#1) (a b : BitVec 32) (d : BitVec 1) (W : Waits sig Unit) {Q : BitVec 32 → sProp 𝕄} :
    iprop(env A κ c ∗ owes (c : Thread nD τ) 0 W ∗ rIn c 1 2 ∗ rIn c 1 1)
      ⊢ iprop((∀ v W', owes (c : Thread nD τ) 0 W' -∗ rPos c 1 2 -∗ slotPt c (nx c 2) 1 (landed A) -∗ rPos c 1 1 -∗ slotPt c (nx c 1) 1 (landed A) -∗ Q v)
          -∗ run c (k0_part7 i x hx ro hro xb hxb accM hA commM hC cc0_scratch2 cc0_scratch3 c v2 h3 a b d) Q) := by
  rw [k0_part7_eq_skeleton]; unfold k0_part7_skel
  simp only [Prog.lift, Prog.bind_op, Prog.bind_ret, Prog.pure_eq_ret]
  iintro ⟨#He, HO, Hr, Hr'⟩ Hk
  iapply (run_rcv A κ c 1 2 (slot_credit _ (nx c 2) 1 (off9_1 c) _) (recv_sem_eq _ 1 (nx c 2) (off8_1 c) _) W) $$ [HO Hr]
  · isplitr; · iexact He
    isplitl [HO] <;> iassumption
  iintro %W1 HO Hp Hs
  iapply (run_rcv A κ c 1 1 (slot_credit _ (nx c 1) 1 (off9_2 c) _) (recv_sem_eq _ 1 (nx c 1) (off8_2 c) _) W1) $$ [HO Hr']
  · isplitr; · iexact He
    isplitl [HO] <;> iassumption
  iintro %W2 HO Hp' Hs'
  iapply run_ret
  iapply Hk $$ HO Hp Hs Hp' Hs'

/-- The last landing; the own block and the first two slots are read. -/
theorem run_part8 (h3 : k0_cond3 i = 1#1) (v : BitVec 32) (W : Waits sig Unit) (f : CommC (F := F)) {Q : (Σ' (v265 : FVec F S64x128 .f32), BitVec 1) → sProp 𝕄} :
    iprop(env A κ c ∗ owes (c : Thread nD τ) 0 W ∗ rIn c 1 0 ∗ accPt c (shr 3) (A c) ∗ (slotPt c c 0 f ∗ slotPt c c 1 f)
        ∗ (slotPt c (nx c 0) 0 (landed A) ∗ slotPt c (nx c 1) 0 (landed A) ∗ slotPt c (nx c 2) 0 (landed A))
        ∗ slotPt c (nx c 1) 1 (landed A) ∗ slotPt c (nx c 2) 1 (landed A))
      ⊢ iprop((∀ W', owes (c : Thread nD τ) 0 W' -∗ rPos c 1 0 -∗ accPt c (shr 3) (A c) -∗ commPt c (mixed A c f)
            -∗ Q ⟨k0_pay3 v2 (A c) (slotR (mixed A c f) 0) (slotR (mixed A c f) 1), Scalar.cmpi .eq v2 2#32⟩)
          -∗ run c (k0_part8 i x hx ro hro xb hxb accM hA commM hC cc0_scratch2 cc0_scratch3 c v2 h3 v) Q) := by
  rw [k0_part8_eq_skeleton]; unfold k0_part8_skel
  simp only [Prog.lift, Prog.bind_op, Prog.bind_ret, Prog.pure_eq_ret]
  iintro ⟨#He, HO, Hr, Ha, Hown, Hlo, S1, S2⟩ Hk
  iapply (run_rcv A κ c 1 0 (slot_credit _ (nx c 0) 1 (off9_3 c) _) (recv_sem_eq _ 1 (nx c 0) (off8_3 c) _) W) $$ [HO Hr]
  · isplitr; · iexact He
    isplitl [HO] <;> iassumption
  iintro %W1 HO Hp Hs
  ihave Hc := (comm_whole A c f) $$ [Hown Hlo S1 S2 Hs]
  · isplitl [Hown]; · iexact Hown
    isplitl [Hlo]; · iexact Hlo
    isplitl [Hs]; · iexact Hs
    isplitl [S1] <;> iassumption
  iapply (run_load_acc c (shr 3) (A c)) $$ Ha
  iintro Ha
  iapply (run_load_comm c (mixed A c f) 0 _ rfl) $$ Hc
  iintro Hc
  iapply (run_load_comm c (mixed A c f) 1 _ rfl) $$ Hc
  iintro Hc
  iapply run_ret
  iapply Hk $$ HO Hp Ha Hc

/-- The other two slots are read; the first send is done. -/
theorem run_part9 (h3 : k0_cond3 i = 1#1) (a : FVec F S64x128 .f32) (b : BitVec 1) (W : Waits sig Unit) (g : CommC (F := F))
    {Q : (Σ' (v277 : FVec F S64x128 .f32) (v296 : BitVec 32), BitVec 32) → sProp 𝕄} :
    iprop(env A κ c ∗ owes (c : Thread nD τ) 0 W ∗ commPt c g ∗ sCr c 0 0 ∗ sPos c 0 0)
      ⊢ iprop((∀ u v W', owes (c : Thread nD τ) 0 W' -∗ commPt c g -∗ sPos1 c 0 0 -∗ halfPt c 0 (shr (Fin.castSucc 0)) (A c) -∗ Q ⟨k0_pay4 v2 a b (slotR g 2) (slotR g 3), u, v⟩)
          -∗ run c (k0_part9 i x hx ro hro xb hxb accM hA commM hC cc0_scratch2 cc0_scratch3 c v2 h3 a b) Q) := by
  rw [k0_part9_eq_skeleton]; unfold k0_part9_skel
  simp only [Prog.lift, Prog.bind_op, Prog.bind_ret, Prog.pure_eq_ret]
  iintro ⟨#He, HO, Hc, Hs, Hp⟩ Hk
  iapply (run_load_comm c g 2 _ rfl) $$ Hc
  iintro Hc
  iapply (run_load_comm c g 3 _ rfl) $$ Hc
  iintro Hc
  iapply (run_done A κ c 0 0 (half_credit 0) (send_sem_eq _ 0 0 rfl _) W) $$ [HO Hs Hp]
  · isplitr; · iexact He
    isplitl [HO]; · iexact HO
    isplitl [Hs] <;> iassumption
  iintro %W1 HO Hp Hh
  iapply run_ret
  iapply Hk $$ HO Hc Hp Hh

/-- Two more sends are done. -/
theorem run_part10 (h3 : k0_cond3 i = 1#1) (a b : BitVec 32) (W : Waits sig Unit) {Q : (Σ' (v326 : BitVec 32) (c4_i32_233 : BitVec 32), BitVec 32) → sProp 𝕄} :
    iprop(env A κ c ∗ owes (c : Thread nD τ) 0 W ∗ (sCr c 0 1 ∗ sPos c 0 1) ∗ sCr c 0 2 ∗ sPos c 0 2)
      ⊢ iprop((∀ u v w W', owes (c : Thread nD τ) 0 W' -∗ sPos1 c 0 1 -∗ halfPt c 0 (shr (Fin.castSucc 1)) (A c) -∗ sPos1 c 0 2 -∗ halfPt c 0 (shr (Fin.castSucc 2)) (A c) -∗ Q ⟨u, v, w⟩)
          -∗ run c (k0_part10 i x hx ro hro xb hxb accM hA commM hC cc0_scratch2 cc0_scratch3 c v2 h3 a b) Q) := by
  rw [k0_part10_eq_skeleton]; unfold k0_part10_skel
  simp only [Prog.lift, Prog.bind_op, Prog.bind_ret, Prog.pure_eq_ret]
  iintro ⟨#He, HO, ⟨Hs, Hp⟩, Hs', Hp'⟩ Hk
  iapply (run_done A κ c 0 1 (half_credit 0) (send_sem_eq _ 0 1 rfl _) W) $$ [HO Hs Hp]
  · isplitr; · iexact He
    isplitl [HO]; · iexact HO
    isplitl [Hs] <;> iassumption
  iintro %W1 HO Hp Hh
  iapply (run_done A κ c 0 2 (half_credit 0) (send_sem_eq _ 0 2 rfl _) W1) $$ [HO Hs' Hp']
  · isplitr; · iexact He
    isplitl [HO]; · iexact HO
    isplitl [Hs'] <;> iassumption
  iintro %W2 HO Hp' Hh'
  iapply run_ret
  iapply Hk $$ HO Hp Hh Hp' Hh'

/-- And two of the second half's. -/
theorem run_part11 (h3 : k0_cond3 i = 1#1) (a b d : BitVec 32) (W : Waits sig Unit) {Q : PUnit → sProp 𝕄} :
    iprop(env A κ c ∗ owes (c : Thread nD τ) 0 W ∗ (sCr c 1 0 ∗ sPos c 1 0) ∗ sCr c 1 1 ∗ sPos c 1 1)
      ⊢ iprop((∀ W', owes (c : Thread nD τ) 0 W' -∗ sPos1 c 1 0 -∗ halfPt c 1 (shr (Fin.castSucc 0)) (A c) -∗ sPos1 c 1 1 -∗ halfPt c 1 (shr (Fin.castSucc 1)) (A c) -∗ Q ⟨⟩)
          -∗ run c (k0_part11 i x hx ro hro xb hxb accM hA commM hC cc0_scratch2 cc0_scratch3 c v2 h3 a b d) Q) := by
  rw [k0_part11_eq_skeleton]; unfold k0_part11_skel
  simp only [Prog.lift, Prog.bind_op, Prog.bind_ret, Prog.pure_eq_ret]
  iintro ⟨#He, HO, ⟨Hs, Hp⟩, Hs', Hp'⟩ Hk
  iapply (run_done A κ c 1 0 (half_credit 1) (send_sem_eq _ 1 0 rfl _) W) $$ [HO Hs Hp]
  · isplitr; · iexact He
    isplitl [HO]; · iexact HO
    isplitl [Hs] <;> iassumption
  iintro %W1 HO Hp Hh
  iapply (run_done A κ c 1 1 (half_credit 1) (send_sem_eq _ 1 1 rfl _) W1) $$ [HO Hs' Hp']
  · isplitr; · iexact He
    isplitl [HO]; · iexact HO
    isplitl [Hs'] <;> iassumption
  iintro %W2 HO Hp' Hh'
  iapply run_ret
  iapply Hk $$ HO Hp Hh Hp' Hh'

end Cert.KernelIdeal.Exchange

end
-- ==== Proof.Body.lean ====
/-
  One grid point of the exchange, in each of the forms it takes: the first, the middle one that sends, the last, and the others.
-/
module

public import proofs.«01_k».proof.Proof.Parts

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

/-! ## What a device holds between grid points -/

/-- The landings awaited, the send cells, the two cells never used, and the second half's tokens. -/
def base (c : Dev nD) : sProp 𝕄 :=
  iprop((rIn c 0 0 ∗ rIn c 0 1 ∗ rIn c 0 2) ∗ (rIn c 1 0 ∗ rIn c 1 1 ∗ rIn c 1 2)
    ∗ (sPos c 0 0 ∗ sPos c 0 1 ∗ sPos c 0 2) ∗ (sPos c 1 0 ∗ sPos c 1 1 ∗ sPos c 1 2)
    ∗ (ownPos c 0 ∗ ownPos c 1) ∗ toks c 1 0 ∗ toks c 1 1 ∗ toks c 1 2)
/-- The device's own slot, which nobody writes. -/
def ownSlot (c : Dev nD) : sProp 𝕄 := iprop(∃ f, slotPt c c 0 f ∗ slotPt c c 1 f)

/-- Before the first point. -/
def g0 (c : Dev nD) : sProp 𝕄 :=
  iprop((tokBar c 0 ∗ tokBar c 1 ∗ tokBar c 2) ∗ barIn c ∗ (toks c 0 0 ∗ toks c 0 1 ∗ toks c 0 2) ∗ (∃ f, commPt c f) ∗ base c)
/-- Before the barrier. -/
def g1 (c : Dev nD) : sProp 𝕄 := iprop(barIn c ∗ (toks c 0 0 ∗ toks c 0 1 ∗ toks c 0 2) ∗ ownSlot c ∗ base c)
/-- After the first half is on its way. -/
def g2 (c : Dev nD) : sProp 𝕄 :=
  iprop(barPos c ∗ (sCr c 0 0 ∗ sCr c 0 1 ∗ sCr c 0 2) ∗ (lent c 1 0 ∗ lent c 1 1 ∗ lent c 1 2) ∗ ownSlot c ∗ base c)
/-- At the end. -/
def g3 (c : Dev nD) : sProp 𝕄 := iprop((semVal (barCell c) 0 ∗ Pipeline.ownSems0 osem c) ∗ ∃ f, commPt c f)

variable (m : (ℓ : Loc nD τ sig) → Buf (Elt F) ℓ) (c : Dev nD)

/-- The first `n` blocks of partial sums are in. -/
def lowSt (n : ℕ) : sProp 𝕄 :=
  iprop(∃ f : AccC (F := F), ⌜∀ j : S64x128.Idx, (j 0).val < 8 * n → f j = accF m c j⌝ ∗ accPt c fullShare f)
/-- The upper half's, while the lower half is away. -/
def hiSt (n : ℕ) : sProp 𝕄 :=
  iprop(∃ f : AccC (F := F), ⌜∀ j : S64x128.Idx, 32 ≤ (j 0).val → (j 0).val < 8 * n → f j = accF m c j⌝ ∗ halfPt c 1 fullShare f)

theorem low_split : (lowSt m c 4 : sProp 𝕄) ⊢ iprop(halfPt c 0 fullShare (accF m c) ∗ hiSt m c 4) := by
  unfold lowSt hiSt
  iintro ⟨%f, %hf, H⟩
  have h : (accPt c fullShare f : sProp 𝕄) ⊢ iprop(halfPt c 0 fullShare (accF m c) ∗ halfPt c 1 fullShare f) := by
    rw [acc_split, halfPt_congr c 0 fullShare f (accF m c) fun j hj => hf j (by have : (j 0).val / 32 = 0 := hj; omega)]
  ihave H := h $$ H
  icases H with ⟨H0, H1⟩
  isplitl [H0]; · iexact H0
  iexists f
  isplitr
  · ipureintro; exact fun j _ hj => hf j hj
  iexact H1

theorem hi_full : (hiSt m c 8 : sProp 𝕄) ⊢ halfPt c 1 fullShare (accF m c) := by
  unfold hiSt
  iintro ⟨%f, %hf, H⟩
  have h : (halfPt c 1 fullShare f : sProp 𝕄) ⊢ halfPt c 1 fullShare (accF m c) := by
    rw [halfPt_congr c 1 fullShare f (accF m c) fun j hj => hf j (by have : (j 0).val / 32 = 1 := hj; omega) (by have : (j 0).val < 64 := (j 0).isLt; omega)]
  iapply h $$ H

/-! ## The stores of a point -/

section
variable (t : Fin cfg0.N) (xb : Memref sig .tc .vmem S1024x2048 .bf16) (Y v7 : Vec F S1024x2048 .bf16)

theorem run_stores_low
    {hl hs hx hl' hs' hx'} {Q : PUnit → sProp 𝕄} {p : Prog (TpuEff nD τ sig (Elt F) Λ₀ .tc) PUnit} :
    iprop(lowSt m c t.val ∗ owns (c : Thread nD τ) xb fullShare Y)
      ⊢ iprop((lowSt m c (t.val + 1) -∗ owns (c : Thread nD τ) xb fullShare v7 -∗ run c p Q)
        -∗ run c (.op (.load accM (rowsR t).toLoadRect hl) fun _ => .op (.store accM (rowsR t) (piece (xblk m c t)) Finset.univ hs hx) fun _ =>
          .op (.load xb (Rect.unit (s := S1024x2048) ![0, 0] S1024x2048.size inb_S1024x2048_S1024x2048_0_0).toLoadRect hl') fun _ =>
          .op (.store xb (Rect.unit (s := S1024x2048) ![0, 0] S1024x2048.size inb_S1024x2048_S1024x2048_0_0) v7 Finset.univ hs' hx') fun _ => p) Q) := by
  unfold lowSt accPt
  iintro ⟨⟨%f, %hf, HA⟩, HX⟩ Hk
  iapply (wp_load_rect 𝒱₀ (c : Thread nD τ) none Set.univ (m := accM) (r := rowsR t) (Finset.subset_univ _)) $$ HA
  iintro HA
  iapply (wp_store 𝒱₀ (c : Thread nD τ) none Set.univ (m := accM) (r := rowsR t) (Finset.subset_univ _)) $$ HA
  iintro HA
  iapply (run_load_whole c xb (by funext a; fin_cases a <;> rfl) Y) $$ HX
  iintro HX
  iapply (run_store_whole c xb (by funext a; fin_cases a <;> rfl) Y v7) $$ HX
  iintro HX
  iapply Hk $$ [HA] HX
  iexists _
  isplitr
  rotate_left
  · iexact HA
  · ipureintro
    exact fun j hj => stored_agree m c t 0 f (fun j _ h => hf j h) j (Nat.zero_le _) hj

theorem run_stores_hi (ht : 4 ≤ t.val)
    {hl hs hx hl' hs' hx'} {Q : PUnit → sProp 𝕄} {p : Prog (TpuEff nD τ sig (Elt F) Λ₀ .tc) PUnit} :
    iprop(hiSt m c t.val ∗ owns (c : Thread nD τ) xb fullShare Y)
      ⊢ iprop((hiSt m c (t.val + 1) -∗ owns (c : Thread nD τ) xb fullShare v7 -∗ run c p Q)
        -∗ run c (.op (.load accM (rowsR t).toLoadRect hl) fun _ => .op (.store accM (rowsR t) (piece (xblk m c t)) Finset.univ hs hx) fun _ =>
          .op (.load xb (Rect.unit (s := S1024x2048) ![0, 0] S1024x2048.size inb_S1024x2048_S1024x2048_0_0).toLoadRect hl') fun _ =>
          .op (.store xb (Rect.unit (s := S1024x2048) ![0, 0] S1024x2048.size inb_S1024x2048_S1024x2048_0_0) v7 Finset.univ hs' hx') fun _ => p) Q) := by
  have e (f : AccC (F := F)) : (halfPt c 1 fullShare f : sProp 𝕄) = ((accM.access (rowsR t)).loc (c : Thread nD τ) ↦[(halfM 1).view.set]{fullShare} f) := rfl
  unfold hiSt
  simp only [e]
  iintro ⟨⟨%f, %hf, HA⟩, HX⟩ Hk
  iapply (wp_load_rect 𝒱₀ (c : Thread nD τ) none Set.univ (m := accM) (r := rowsR t) (rowsR_hi t ht)) $$ HA
  iintro HA
  iapply (wp_store 𝒱₀ (c : Thread nD τ) none Set.univ (m := accM) (r := rowsR t) (rowsR_hi t ht)) $$ HA
  iintro HA
  iapply (run_load_whole c xb (by funext a; fin_cases a <;> rfl) Y) $$ HX
  iintro HX
  iapply (run_store_whole c xb (by funext a; fin_cases a <;> rfl) Y v7) $$ HX
  iintro HX
  iapply Hk $$ [HA] HX
  iexists _
  isplitr
  rotate_left
  · iexact HA
  · ipureintro
    exact fun j h1 hj => stored_agree m c t 32 f hf j h1 hj
end

/-! ## The points -/

theorem run_bind {α β : Type} (p : Prog (TpuEff nD τ sig (Elt F) Λ₀ .tc) α) (k : α → Prog (TpuEff nD τ sig (Elt F) Λ₀ .tc) β) (Q : β → sProp 𝕄) :
    run c (p >>= k) Q = run c p fun a => run c (k a) Q := wp_bind _ _ _ p k Q

theorem run_deviceId {α : Type} (k : Dev nD → Prog (TpuEff nD τ sig (Elt F) Λ₀ .tc) α) (Q : α → sProp 𝕄) :
    run c (.op .deviceId k) Q = run c (k c) Q := wp_deviceId _ _ _ _

variable (t : Fin cfg0.N) (κ : GSem nD τ sig → ℕ)
variable (x : Memref sig .tc .vmem S1024x2048 .bf16) (hx : x.IsWhole) (ro : Memref sig .tc .vmem S64x128 .f32) (hro : ro.IsWhole)
  (xb : Memref sig .tc .vmem S1024x2048 .bf16) (hxb : xb.IsWhole) (hA : accM.IsWhole) (hC : commM.IsWhole)

theorem comm_open (f : CommC (F := F)) : (commPt c f : sProp 𝕄) ⊢ iprop(slotPt c c 0 f ∗ slotPt c c 1 f ∗ slotPt c (nx c 0) 0 f ∗ slotPt c (nx c 0) 1 f
    ∗ slotPt c (nx c 1) 0 f ∗ slotPt c (nx c 1) 1 f ∗ slotPt c (nx c 2) 0 f ∗ slotPt c (nx c 2) 1 f) := by
  rw [comm_split]

/-- What the opening of a point hands on. -/
abbrev Head : Type := Σ' (arg0 : BitVec 32) (d0 : Dev nD) (v2 : BitVec 32) (v7 : FVec F S1024x2048 .bf16) (v36 : FVec F S1024x128 .f32) (v37 : IVec S8x1024 32)
  (v38 : IVec S8x1024 32) (c128_i32_7 : BitVec 32) (v40 : IVec S8x1024 32), IVec S8x1024 32
abbrev headOf (X : Vec F S1024x2048 .bf16) : Head (F := F) :=
  ⟨BitVec.ofNat 32 ((grid0.coords t) 0).val, c, idw c, k0_pay5 X, k0_pay6 X, iota .tc S8x1024 32 [0] iota_S8x1024_d0_w32, iota .tc S8x1024 32 [1] iota_S8x1024_d1_w32, 128#32, k0_pay7, k0_pay8⟩

/-- The opening of the first point: the three signals, the block read. -/
theorem run_head_first (h1 : k0_cond1 (grid0.coords t) = 1#1) (A : Dev nD → AccC (F := F)) (W : Waits sig Unit) (X : Vec F S1024x2048 .bf16) {Q : Head (F := F) → sProp 𝕄} :
    iprop(env A κ c ∗ owes (c : Thread nD τ) (owe c 9) W ∗ (tokBar c 0 ∗ tokBar c 1 ∗ tokBar c 2) ∗ (∃ f, commPt c f) ∗ owns (c : Thread nD τ) x fullShare X)
      ⊢ iprop((owes (c : Thread nD τ) (owe c 6) W -∗ ownSlot c -∗ owns (c : Thread nD τ) x fullShare X -∗ Q (headOf c t X))
          -∗ run c (k0_part12 (grid0.coords t) x hx ro hro xb hxb accM hA commM hC cc0_scratch2 cc0_scratch3) Q) := by
  rw [k0_part12_eq_skeleton]; unfold k0_part12_skel
  simp only [semSignalWord, Prog.lift, Prog.bind_op, Prog.bind_ret, Prog.pure_eq_ret]
  rw [run_deviceId, dif_pos h1, run_bind]
  iintro ⟨#He, HO, ⟨T0, T1, T2⟩, ⟨%f, Hc⟩, HX⟩ Hk
  ihave Hc := (comm_open c f) $$ Hc
  icases Hc with ⟨A0, A1, B0, B1, C0, C1, D0, D1⟩
  iapply (run_part1 A κ c (grid0.coords t) x hx ro hro xb hxb hA hC _ h1 W f) $$ [HO T0 T1 B0 B1 C0 C1]
  · isplitr; · iexact He
    isplitl [HO]; · iexact HO
    isplitl [T0 B0 B1]
    · isplitl [T0]; · iexact T0
      isplitl [B0] <;> iassumption
    isplitl [T1]; · iexact T1
    isplitl [C0] <;> iassumption
  iintro %r %hr HO
  obtain ⟨v79, a, b, d, e⟩ := r
  obtain rfl : v79 = (SemArray.scalar (sig.barrier 0 rfl) : Sems sig S_) := hr
  dsimp only
  unfold env
  icases He with ⟨#HI, #Ho, #Hlev⟩
  iapply (run_signal A κ c _ 2 (Fin.ext (dev3_val c)) _ rfl (owe c 6) (owe c 7) rfl W f) $$ [HO T2 D0 D1]
  · isplitr; · iexact HI
    isplitr; · iexact Ho
    isplitl [HO]; · iexact HO
    isplitl [T2]; · iexact T2
    isplitl [D0] <;> iassumption
  iintro HO
  iapply (run_load_whole c x (by funext a; fin_cases a <;> rfl) X) $$ HX
  iintro HX
  iapply run_ret
  iapply Hk $$ HO [A0 A1] HX
  unfold ownSlot
  iexists f
  isplitl [A0] <;> iassumption

/-- The opening of a later point. -/
theorem run_head (h1 : ¬ k0_cond1 (grid0.coords t) = 1#1) (X : Vec F S1024x2048 .bf16) {Q : Head (F := F) → sProp 𝕄} :
    (owns (c : Thread nD τ) x fullShare X : sProp 𝕄)
      ⊢ iprop((owns (c : Thread nD τ) x fullShare X -∗ Q (headOf c t X)) -∗ run c (k0_part12 (grid0.coords t) x hx ro hro xb hxb accM hA commM hC cc0_scratch2 cc0_scratch3) Q) := by
  rw [k0_part12_eq_skeleton]; unfold k0_part12_skel
  simp only [semSignalWord, Prog.lift, Prog.bind_op, Prog.bind_ret, Prog.pure_eq_ret]
  rw [run_deviceId, dif_neg h1]
  iintro HX Hk
  iapply (run_load_whole c x (by funext a; fin_cases a <;> rfl) X) $$ HX
  iintro HX
  iapply run_ret
  iapply Hk $$ HX

/-- The first point. -/
theorem run_point_first (h1 : k0_cond1 (grid0.coords t) = 1#1) (h2 : ¬ k0_cond2 (grid0.coords t) = 1#1) (h3 : ¬ k0_cond3 (grid0.coords t) = 1#1)
    (A : Dev nD → AccC (F := F)) (W : Waits sig Unit) (Y : Vec F S1024x2048 .bf16) {Q : PUnit → sProp 𝕄} :
    iprop(env A κ c ∗ owes (c : Thread nD τ) (owe c 9) W ∗ lowSt m c t.val ∗ g0 c ∗ owns (c : Thread nD τ) x fullShare (xblk m c t) ∗ owns (c : Thread nD τ) xb fullShare Y)
      ⊢ iprop((owes (c : Thread nD τ) (owe c 6) W -∗ lowSt m c (t.val + 1) -∗ g1 c -∗ owns (c : Thread nD τ) x fullShare (xblk m c t)
            -∗ owns (c : Thread nD τ) xb fullShare (k0_pay5 (xblk m c t)) -∗ Q ⟨⟩)
          -∗ run c (cc0__partial_exchange_body (grid0.coords t) x hx ro hro xb hxb accM hA commM hC cc0_scratch2 cc0_scratch3) Q) := by
  rw [cc0__partial_exchange_body_eq_skeleton]; unfold cc0__partial_exchange_body_skel
  simp only [Prog.lift, Prog.bind_op, Prog.bind_ret, Prog.pure_eq_ret, dif_neg h2, dif_neg h3]
  rw [run_bind]
  unfold g0 g1
  iintro ⟨#He, HO, HA, ⟨HT, HB, Ht, Hc, Hb⟩, HX, HY⟩ Hk
  iapply (run_head_first c t κ x hx ro hro xb hxb hA hC h1 A W (xblk m c t)) $$ [HO HT Hc HX]
  · isplitr; · iexact He
    isplitl [HO]; · iexact HO
    isplitl [HT]; · iexact HT
    isplitl [Hc] <;> iassumption
  iintro HO Hs HX
  dsimp only
  iapply (run_stores_low m c t xb Y (k0_pay5 (xblk m c t))) $$ [HA HY]
  · isplitl [HA] <;> iassumption
  iintro HA HY
  iapply run_ret
  iapply Hk $$ HO HA [HB Ht Hs Hb] HX HY
  isplitl [HB]; · iexact HB
  isplitl [Ht]; · iexact Ht
  isplitl [Hs] <;> iassumption

/-- A point of the first half that neither signals nor sends. -/
theorem run_point_low (h1 : ¬ k0_cond1 (grid0.coords t) = 1#1) (h2 : ¬ k0_cond2 (grid0.coords t) = 1#1) (h3 : ¬ k0_cond3 (grid0.coords t) = 1#1)
    (Y : Vec F S1024x2048 .bf16) {Q : PUnit → sProp 𝕄} :
    iprop(lowSt m c t.val ∗ owns (c : Thread nD τ) x fullShare (xblk m c t) ∗ owns (c : Thread nD τ) xb fullShare Y)
      ⊢ iprop((lowSt m c (t.val + 1) -∗ owns (c : Thread nD τ) x fullShare (xblk m c t) -∗ owns (c : Thread nD τ) xb fullShare (k0_pay5 (xblk m c t)) -∗ Q ⟨⟩)
          -∗ run c (cc0__partial_exchange_body (grid0.coords t) x hx ro hro xb hxb accM hA commM hC cc0_scratch2 cc0_scratch3) Q) := by
  rw [cc0__partial_exchange_body_eq_skeleton]; unfold cc0__partial_exchange_body_skel
  simp only [Prog.lift, Prog.bind_op, Prog.bind_ret, Prog.pure_eq_ret, dif_neg h2, dif_neg h3]
  rw [run_bind]
  iintro ⟨HA, HX, HY⟩ Hk
  iapply (run_head c t x hx ro hro xb hxb hA hC h1 (xblk m c t)) $$ HX
  iintro HX
  dsimp only
  iapply (run_stores_low m c t xb Y (k0_pay5 (xblk m c t))) $$ [HA HY]
  · isplitl [HA] <;> iassumption
  iintro HA HY
  iapply run_ret
  iapply Hk $$ HA HX HY

/-- A point of the second half before the last. -/
theorem run_point_hi (ht : 4 ≤ t.val) (h1 : ¬ k0_cond1 (grid0.coords t) = 1#1) (h2 : ¬ k0_cond2 (grid0.coords t) = 1#1) (h3 : ¬ k0_cond3 (grid0.coords t) = 1#1)
    (Y : Vec F S1024x2048 .bf16) {Q : PUnit → sProp 𝕄} :
    iprop(hiSt m c t.val ∗ owns (c : Thread nD τ) x fullShare (xblk m c t) ∗ owns (c : Thread nD τ) xb fullShare Y)
      ⊢ iprop((hiSt m c (t.val + 1) -∗ owns (c : Thread nD τ) x fullShare (xblk m c t) -∗ owns (c : Thread nD τ) xb fullShare (k0_pay5 (xblk m c t)) -∗ Q ⟨⟩)
          -∗ run c (cc0__partial_exchange_body (grid0.coords t) x hx ro hro xb hxb accM hA commM hC cc0_scratch2 cc0_scratch3) Q) := by
  rw [cc0__partial_exchange_body_eq_skeleton]; unfold cc0__partial_exchange_body_skel
  simp only [Prog.lift, Prog.bind_op, Prog.bind_ret, Prog.pure_eq_ret, dif_neg h2, dif_neg h3]
  rw [run_bind]
  iintro ⟨HA, HX, HY⟩ Hk
  iapply (run_head c t x hx ro hro xb hxb hA hC h1 (xblk m c t)) $$ HX
  iintro HX
  dsimp only
  iapply (run_stores_hi m c t xb Y (k0_pay5 (xblk m c t)) ht) $$ [HA HY]
  · isplitl [HA] <;> iassumption
  iintro HA HY
  iapply run_ret
  iapply Hk $$ HA HX HY

theorem half_lend (c : Dev nD) (r : Fin 2) (f : AccC (F := F)) : (halfPt c r fullShare f : sProp 𝕄)
    ⊢ iprop(halfPt c r (shr (Fin.castSucc 0)) f ∗ halfPt c r (shr (Fin.castSucc 1)) f ∗ halfPt c r (shr (Fin.castSucc 2)) f ∗ halfPt c r (shr 3) f) := by
  show _ ⊢ iprop(halfPt c r (shr 0) f ∗ halfPt c r (shr 1) f ∗ halfPt c r (shr 2) f ∗ halfPt c r (shr 3) f)
  rw [half_shares]
  iintro ⟨⟨H0, H1⟩, H2, H3⟩
  isplitl [H0]; · iexact H0
  isplitl [H1]; · iexact H1
  isplitl [H2] <;> iassumption
theorem half_back (c : Dev nD) (r : Fin 2) (f : AccC (F := F)) :
    iprop(halfPt c r (shr (Fin.castSucc 0)) f ∗ halfPt c r (shr (Fin.castSucc 1)) f ∗ halfPt c r (shr (Fin.castSucc 2)) f ∗ halfPt c r (shr 3) f)
      ⊢ (halfPt c r fullShare f : sProp 𝕄) := by
  show iprop(halfPt c r (shr 0) f ∗ halfPt c r (shr 1) f ∗ halfPt c r (shr 2) f ∗ halfPt c r (shr 3) f) ⊢ _
  rw [half_shares]
  iintro ⟨H0, H1, H2, H3⟩
  isplitl [H0 H1]
  · isplitl [H0] <;> iassumption
  isplitl [H2] <;> iassumption
theorem acc_join (c : Dev nD) (q : PosShare TreeShare) (f : AccC (F := F)) : iprop(halfPt c 0 q f ∗ halfPt c 1 q f) ⊢ (accPt c q f : sProp 𝕄) := by rw [acc_split]
theorem acc_open (c : Dev nD) (q : PosShare TreeShare) (f : AccC (F := F)) : (accPt c q f : sProp 𝕄) ⊢ iprop(halfPt c 0 q f ∗ halfPt c 1 q f) := by rw [acc_split]

/-- The fourth point: the barrier, and the lower half to the three peers. -/
theorem run_point_send (ht : t.val + 1 = 4) (h1 : ¬ k0_cond1 (grid0.coords t) = 1#1) (h2 : k0_cond2 (grid0.coords t) = 1#1) (h3 : ¬ k0_cond3 (grid0.coords t) = 1#1)
    (W : Waits sig Unit) (Y : Vec F S1024x2048 .bf16) {Q : PUnit → sProp 𝕄} :
    iprop(env (accF m) κ c ∗ owes (c : Thread nD τ) (owe c 6) W ∗ lowSt m c t.val ∗ g1 c ∗ owns (c : Thread nD τ) x fullShare (xblk m c t) ∗ owns (c : Thread nD τ) xb fullShare Y)
      ⊢ iprop((∀ W', owes (c : Thread nD τ) (owe c 3) W' -∗ (halfPt c 0 (shr 3) (accF m c) ∗ hiSt m c 4) -∗ g2 c -∗ owns (c : Thread nD τ) x fullShare (xblk m c t)
            -∗ owns (c : Thread nD τ) xb fullShare (k0_pay5 (xblk m c t)) -∗ Q ⟨⟩)
          -∗ run c (cc0__partial_exchange_body (grid0.coords t) x hx ro hro xb hxb accM hA commM hC cc0_scratch2 cc0_scratch3) Q) := by
  rw [cc0__partial_exchange_body_eq_skeleton]; unfold cc0__partial_exchange_body_skel
  simp only [Prog.lift, Prog.bind_op, Prog.bind_ret, Prog.pure_eq_ret, dif_pos h2, dif_neg h3]
  rw [run_bind]
  unfold g1 g2
  iintro ⟨#He, HO, HA, ⟨HB, ⟨Ht0, Ht1, Ht2⟩, Hs, Hb⟩, HX, HY⟩ Hk
  iapply (run_head c t x hx ro hro xb hxb hA hC h1 (xblk m c t)) $$ HX
  iintro HX
  dsimp only
  iapply (run_stores_low m c t xb Y (k0_pay5 (xblk m c t))) $$ [HA HY]
  · isplitl [HA] <;> iassumption
  rw [ht]
  iintro HA HY
  ihave HA := (low_split m c) $$ HA
  icases HA with ⟨Hlo, Hhi⟩
  ihave Hlo := (half_lend c 0 (accF m c)) $$ Hlo
  icases Hlo with ⟨L0, L1, L2, L3⟩
  rw [run_bind]
  iapply (run_part2 (accF m) κ c (grid0.coords t) x hx ro hro xb hxb hA hC _ h2 W) $$ [HO HB L0 Ht0]
  · isplitr; · iexact He
    isplitl [HO]; · iexact HO
    isplitl [HB]; · iexact HB
    isplitl [L0] <;> iassumption
  iintro %v %W' HO HB S0 H10 H01 H11 H02 H12
  iapply (run_snd (accF m) κ c _ 0 1 (Fin.ext (dev5_val c)) (half_eq _ 0 rfl _) (slot_eq _ c 0 (k0_off3_eq c) _) (send_sem_eq _ 0 1 rfl _) (recv_sem_eq _ 0 c (k0_off2_eq c) _)
    (owe c 4) (owe c 5) rfl W') $$ [H01 L1 HO Ht1]
  · isplitr; · iexact He
    isplitl [H01]; · iexact H01
    isplitl [L1]; · iexact L1
    isplitl [HO] <;> iassumption
  iintro S1 HO
  iapply (run_snd (accF m) κ c _ 0 2 (Fin.ext (dev6_val c)) (half_eq _ 0 rfl _) (slot_eq _ c 0 (k0_off3_eq c) _) (send_sem_eq _ 0 2 rfl _) (recv_sem_eq _ 0 c (k0_off2_eq c) _)
    (owe c 3) (owe c 4) rfl W') $$ [H02 L2 HO Ht2]
  · isplitr; · iexact He
    isplitl [H02]; · iexact H02
    isplitl [L2]; · iexact L2
    isplitl [HO] <;> iassumption
  iintro S2 HO
  iapply run_ret
  iapply Hk $$ HO [L3 Hhi] [HB S0 S1 S2 H10 H11 H12 Hs Hb] HX HY
  · isplitl [L3] <;> iassumption
  isplitl [HB]; · iexact HB
  isplitl [S0 S1 S2]
  · isplitl [S0]; · iexact S0
    isplitl [S1] <;> iassumption
  isplitl [H10 H11 H12]
  · isplitl [H10]; · iexact H10
    isplitl [H11] <;> iassumption
  isplitl [Hs] <;> iassumption

end Cert.KernelIdeal.Exchange

end
-- ==== Proof.Last.lean ====
/-
  The last grid point of the exchange.
-/
module

public import proofs.«01_k».proof.Proof.Body

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (c : Dev nD) (t : Fin cfg0.N) (κ : GSem nD τ sig → ℕ)
variable (x : Memref sig .tc .vmem S1024x2048 .bf16) (hx : x.IsWhole) (ro : Memref sig .tc .vmem S64x128 .f32) (hro : ro.IsWhole)
  (xb : Memref sig .tc .vmem S1024x2048 .bf16) (hxb : xb.IsWhole) (hA : accM.IsWhole) (hC : commM.IsWhole)

theorem run_fupd {α : Type} (p : Prog (TpuEff nD τ sig (Elt F) Λ₀ .tc) α) (Q : α → sProp 𝕄) :
    iprop(|={Set.univ}=> run c p Q) ⊢ run c p Q := fupd_wp _ _ _ p Q

/-- What the last point stores is the device's reciprocal roots, whatever its own slot held. -/
theorem rout_eq (f : CommC (F := F)) :
    k0_pay2 (k0_pay4 (idw c) (k0_pay3 (idw c) (accF m c) (slotR (mixed (accF m) c f) 0) (slotR (mixed (accF m) c f) 1)) (Scalar.cmpi .eq (idw c) 2#32)
      (slotR (mixed (accF m) c f) 2) (slotR (mixed (accF m) c f) 3)) = routF m c :=
  congrArg k0_pay2 (total_congr c (accF m c) (slotR (mixed (accF m) c f)) (slotV (accF m)) fun p hp => slotR_mixed (accF m) c f p hp)

/-- The last point: the upper half to the three peers, the landings, the combination, the sends' ends. -/
theorem run_point_last (ht : t.val + 1 = 8) (h1 : ¬ k0_cond1 (grid0.coords t) = 1#1) (h2 : ¬ k0_cond2 (grid0.coords t) = 1#1) (h3 : k0_cond3 (grid0.coords t) = 1#1)
    (W : Waits sig Unit) (Y : Vec F S1024x2048 .bf16) (R : Vec F S64x128 .f32) {Q : PUnit → sProp 𝕄} :
    iprop(env (accF m) κ c ∗ owes (c : Thread nD τ) (owe c 3) W ∗ (halfPt c 0 (shr 3) (accF m c) ∗ hiSt m c t.val) ∗ g2 c
        ∗ owns (c : Thread nD τ) x fullShare (xblk m c t) ∗ owns (c : Thread nD τ) xb fullShare Y ∗ owns (c : Thread nD τ) ro fullShare R)
      ⊢ iprop((∀ W', owes (c : Thread nD τ) 0 W' -∗ accPt c fullShare (accF m c) -∗ g3 c -∗ owns (c : Thread nD τ) x fullShare (xblk m c t)
            -∗ owns (c : Thread nD τ) xb fullShare (k0_pay5 (xblk m c t)) -∗ owns (c : Thread nD τ) ro fullShare (routF m c) -∗ Q ⟨⟩)
          -∗ run c (cc0__partial_exchange_body (grid0.coords t) x hx ro hro xb hxb accM hA commM hC cc0_scratch2 cc0_scratch3) Q) := by
  rw [cc0__partial_exchange_body_eq_skeleton]; unfold cc0__partial_exchange_body_skel
  simp only [Prog.lift, Prog.bind_op, Prog.bind_ret, Prog.pure_eq_ret, dif_neg h2, dif_pos h3]
  rw [run_bind]
  unfold g2 base ownSlot
  iintro ⟨#He, HO, ⟨L3, HA⟩, ⟨HB, ⟨C00, C01, C02⟩, ⟨N0, N1, N2⟩, ⟨%f, F0, F1⟩, ⟨R00, R01, R02⟩, ⟨R10, R11, R12⟩, ⟨P00, P01, P02⟩, ⟨P10, P11, P12⟩, ⟨O0, O1⟩, T0, T1, T2⟩, HX, HY, HR⟩ Hk
  iapply (run_head c t x hx ro hro xb hxb hA hC h1 (xblk m c t)) $$ HX
  iintro HX
  dsimp only
  iapply (run_stores_hi m c t xb Y (k0_pay5 (xblk m c t)) (by omega)) $$ [HA HY]
  · isplitl [HA] <;> iassumption
  rw [ht]
  iintro HA HY
  ihave HA := (hi_full m c) $$ HA
  ihave HA := (half_lend c 1 (accF m c)) $$ HA
  icases HA with ⟨U0, U1, U2, U3⟩
  rw [run_bind]
  iapply (run_part3 (accF m) κ c (grid0.coords t) x hx ro hro xb hxb hA hC _ h3 W) $$ [HO N0 U0 T0]
  · isplitr; · iexact He
    isplitl [HO]; · iexact HO
    isplitl [N0]; · iexact N0
    isplitl [U0] <;> iassumption
  iintro %v HO C10
  rw [run_bind]
  iapply (run_part4 (accF m) κ c (grid0.coords t) x hx ro hro xb hxb hA hC _ h3 v W) $$ [HO N1 U1 T1 N2 U2 T2]
  · isplitr; · iexact He
    isplitl [HO]; · iexact HO
    isplitl [N1 U1 T1]
    · isplitl [N1]; · iexact N1
      isplitl [U1] <;> iassumption
    isplitl [N2]; · iexact N2
    isplitl [U2] <;> iassumption
  iintro %a %b HO C11 C12
  dsimp only
  rw [run_bind]
  iapply (run_part5 (accF m) κ c (grid0.coords t) x hx ro hro xb hxb hA hC _ h3 a b W) $$ [HO R02]
  · isplitr; · iexact He
    isplitl [HO] <;> iassumption
  iintro %W1 HO R02 S02
  rw [run_bind]
  iapply (run_part6 (accF m) κ c (grid0.coords t) x hx ro hro xb hxb hA hC _ h3 W1) $$ [HO R01 R00]
  · isplitr; · iexact He
    isplitl [HO]; · iexact HO
    isplitl [R01] <;> iassumption
  iintro %a1 %b1 %d1 %W2 HO R01 S01 R00 S00
  dsimp only
  rw [run_bind]
  iapply (run_part7 (accF m) κ c (grid0.coords t) x hx ro hro xb hxb hA hC _ h3 a1 b1 d1 W2) $$ [HO R12 R11]
  · isplitr; · iexact He
    isplitl [HO]; · iexact HO
    isplitl [R12] <;> iassumption
  iintro %a2 %W3 HO R12 S12 R11 S11
  rw [run_bind]
  ihave HL := (acc_join c (shr 3) (accF m c)) $$ [L3 U3]
  · isplitl [L3] <;> iassumption
  iapply (run_part8 (accF m) κ c (grid0.coords t) x hx ro hro xb hxb hA hC _ h3 a2 W3 f) $$ [HO R10 HL F0 F1 S00 S01 S02 S11 S12]
  · isplitr; · iexact He
    isplitl [HO]; · iexact HO
    isplitl [R10]; · iexact R10
    isplitl [HL]; · iexact HL
    isplitl [F0 F1]
    · isplitl [F0] <;> iassumption
    isplitl [S00 S01 S02]
    · isplitl [S00]; · iexact S00
      isplitl [S01] <;> iassumption
    isplitl [S11] <;> iassumption
  iintro %W4 HO R10 HL HM
  dsimp only
  rw [run_bind]
  iapply (run_part9 (accF m) κ c (grid0.coords t) x hx ro hro xb hxb hA hC _ h3 _ _ W4 (mixed (accF m) c f)) $$ [HO HM C00 P00]
  · isplitr; · iexact He
    isplitl [HO]; · iexact HO
    isplitl [HM]; · iexact HM
    isplitl [C00] <;> iassumption
  iintro %u0 %u1 %W5 HO HM P00 L0
  dsimp only
  rw [run_bind]
  iapply (run_part10 (accF m) κ c (grid0.coords t) x hx ro hro xb hxb hA hC _ h3 u0 u1 W5) $$ [HO C01 P01 C02 P02]
  · isplitr; · iexact He
    isplitl [HO]; · iexact HO
    isplitl [C01 P01]
    · isplitl [C01] <;> iassumption
    isplitl [C02] <;> iassumption
  iintro %v0 %v1 %v2 %W6 HO P01 L1 P02 L2
  dsimp only
  rw [run_bind]
  iapply (run_part11 (accF m) κ c (grid0.coords t) x hx ro hro xb hxb hA hC _ h3 v0 v1 v2 W6) $$ [HO C10 P10 C11 P11]
  · isplitr; · iexact He
    isplitl [HO]; · iexact HO
    isplitl [C10 P10]
    · isplitl [C10] <;> iassumption
    isplitl [C11] <;> iassumption
  iintro %W7 HO P10 U0 P11 U1
  iapply (run_done (accF m) κ c 1 2 (half_credit 1) (send_sem_eq _ 1 2 rfl _) W7) $$ [HO C12 P12]
  · isplitr; · iexact He
    isplitl [HO]; · iexact HO
    isplitl [C12] <;> iassumption
  iintro %W8 HO P12 U2
  iapply (run_load_whole c ro (by funext a; fin_cases a <;> rfl) R) $$ HR
  iintro HR
  iapply (run_store_whole c ro (by funext a; fin_cases a <;> rfl) R _) $$ HR
  iintro HR
  iapply run_fupd
  imod (close_all (accF m) κ c) $$ [HB P00 P01 P02 P10 P11 P12 R00 R01 R02 R10 R11 R12 O0 O1] with HD
  · isplitr; · iexact He
    isplitl [HB]; · iexact HB
    isplitl [P00 P01 P02]
    · isplitl [P00]; · iexact P00
      isplitl [P01] <;> iassumption
    isplitl [P10 P11 P12]
    · isplitl [P10]; · iexact P10
      isplitl [P11] <;> iassumption
    isplitl [R00 R01 R02]
    · isplitl [R00]; · iexact R00
      isplitl [R01] <;> iassumption
    isplitl [R10 R11 R12]
    · isplitl [R10]; · iexact R10
      isplitl [R11] <;> iassumption
    isplitl [O0] <;> iassumption
  imodintro
  iapply run_ret
  ihave HL := (acc_open c (shr 3) (accF m c)) $$ HL
  icases HL with ⟨L3, U3⟩
  ihave HA0 := (half_back c 0 (accF m c)) $$ [L0 L1 L2 L3]
  · isplitl [L0]; · iexact L0
    isplitl [L1]; · iexact L1
    isplitl [L2] <;> iassumption
  ihave HA1 := (half_back c 1 (accF m c)) $$ [U0 U1 U2 U3]
  · isplitl [U0]; · iexact U0
    isplitl [U1]; · iexact U1
    isplitl [U2] <;> iassumption
  ihave HA := (acc_join c fullShare (accF m c)) $$ [HA0 HA1]
  · isplitl [HA0] <;> iassumption
  ihave HR := (show (owns (c : Thread nD τ) ro fullShare _ : sProp 𝕄) ⊢ owns (c : Thread nD τ) ro fullShare (routF m c) from (rout_eq m c f) ▸ BI.Entails.refl _) $$ HR
  unfold g3
  iapply Hk $$ HO HA [HD HM] HX HY HR
  isplitl [HD]; · iexact HD
  iexists _
  iexact HM

end Cert.KernelIdeal.Exchange

end
-- ==== Proof.Talk.lean ====
/-
  The exchange as the pipeline runs it: what a device holds before each grid point, and the body at every point.
-/
module

public import proofs.«01_k».proof.Proof.Last
public import proofs.«01_k».proof.Proof.Gen.KernelIdeal.Points
public import proofs.«01_k».proof.Proof.Gen.KernelIdeal.Launch

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (c : Dev nD)

/-! ## The proof data of the exchange -/

/-- A scoped buffer, whole, at contents not named. -/
abbrev anyPt (r : Ref sig .tc) : sProp 𝕄 := iprop(∃ f : Buf (Elt F) ((c : Thread nD τ).loc r), ((c : Thread nD τ).loc r) ↦{fullShare} f)
/-- The other call's staging buffers, which the exchange leaves alone. -/
def idleBufs : sProp 𝕄 :=
  iprop(anyPt c cc1_stg0_0 ∗ anyPt c cc1_stg0_1 ∗ anyPt c cc1_stg1_0 ∗ anyPt c cc1_stg1_1 ∗ anyPt c cc1_stg2_0 ∗ anyPt c cc1_stg3_0 ∗ anyPt c cc1_stg3_1)

/-- The payments to go before grid point `n`. -/
def due (n : ℕ) : ℕ := if n = 0 then 9 else if n < 4 then 6 else if n < 8 then 3 else 0

/-- What a device holds of the exchange before grid point `n`. -/
def talkSt (n : ℕ) : sProp 𝕄 :=
  if n = 0 then iprop((∃ κ, env (accF m) κ c) ∗ lowSt m c n ∗ g0 c)
  else if n < 4 then iprop((∃ κ, env (accF m) κ c) ∗ lowSt m c n ∗ g1 c)
  else if n < 8 then iprop((∃ κ, env (accF m) κ c) ∗ (halfPt c 0 (shr 3) (accF m c) ∗ hiSt m c n) ∗ g2 c)
  else iprop(accPt c fullShare (accF m c) ∗ g3 c)

/-- The exchange's proof data. -/
def dat0 : Dat τ (Elt F) Unit ℕ UU ℕ cfg0 c where
  A w := m ((cfg0.win w).arr.view.loc (c : Thread nD τ))
  after w t := match w with
    | 0 => xblk m c t
    | 1 => routF m c
    | 2 => k0_pay5 (xblk m c t)
  Φ t := iprop(talkSt m c t.val ∗ idleBufs c ∗ ∃ r, prngReg c r)
  q _ := fullShare
  owed t := owe c (due t.val)

theorem owesAt_intro (t : Fin (cfg0.N + 1)) (n : ℕ) (h0 : due t.val = n) (W : Waits sig Unit) :
    (owes (c : Thread nD τ) (owe c n) W : sProp 𝕄) ⊢ ((dat0 m c).owesAt () t : sProp 𝕄) := by
  subst h0
  unfold Dat.owesAt Pipeline.owesWithin Dat.bound
  iintro HO; iexists W; isplitr; · ipureintro; exact fun _ _ => Or.inl trivial
  iexact HO
theorem owesAt_elim (t : Fin (cfg0.N + 1)) (n : ℕ) (h0 : due t.val = n) :
    ((dat0 m c).owesAt () t : sProp 𝕄) ⊢ iprop(∃ W, owes (c : Thread nD τ) (owe c n) W) := by
  subst h0
  unfold Dat.owesAt Pipeline.owesWithin
  iintro ⟨%W, -, HO⟩; iexists W; iexact HO

theorem before_x (t : Fin cfg0.N) (d) : (dat0 m c).before 0 t d = xblk m c t := by
  unfold Dat.before; rw [if_pos (fetch0_0 t)]; rfl

/-- A point that leaves the result's buffer alone, from what its body does to the rest. -/
theorem body_quiet (t : Fin cfg0.N) (n n' : ℕ) (hn : due t.val = n) (hn' : due (t.val + 1) = n')
    (hi : cfg0.idle 1 (cfg0.grid.coords t) = true) (hf : (cfg0.win 1).flush t = false)
    (core : ∀ (Q : PUnit → sProp 𝕄) (W : Waits sig Unit) (Y : Vec F S1024x2048 .bf16),
      iprop(talkSt m c t.val ∗ owes (c : Thread nD τ) (owe c n) W ∗ owns (c : Thread nD τ) (st0_0 t) fullShare (xblk m c t) ∗ owns (c : Thread nD τ) (st0_2 t) fullShare Y)
        ⊢ iprop((∀ W', owes (c : Thread nD τ) (owe c n') W' -∗ talkSt m c (t.val + 1) -∗ owns (c : Thread nD τ) (st0_0 t) fullShare (xblk m c t)
            -∗ owns (c : Thread nD τ) (st0_2 t) fullShare (k0_pay5 (xblk m c t)) -∗ Q ⟨⟩) -∗ run c (bodyAt0 t) Q)) :
    iprop((dat0 m c).Φ t.castSucc ∗ (dat0 m c).owesAt () t.castSucc
        ∗ bigSep Finset.univ fun w : Fin cfg0.W => iprop(∃ d, owns (c : Thread nD τ) ((cfg0.win w).stage (cfg0.slots t w)) fullShare ((dat0 m c).before w t d)))
      ⊢ run c (bodyAt0 t) fun _ =>
          iprop((dat0 m c).Φ t.succ ∗ (dat0 m c).owesAt () t.succ
            ∗ bigSep Finset.univ fun w : Fin cfg0.W =>
                  match cfg0.idle w (cfg0.grid.coords t) with
                  | true =>
                    match (cfg0.win w).flush t with
                    | false => iprop(∃ d, owns (c : Thread nD τ) ((cfg0.win w).stage (cfg0.slots t w)) fullShare ((dat0 m c).before w t d))
                    | true => owns (c : Thread nD τ) ((cfg0.win w).stage (cfg0.slots t w)) fullShare ((dat0 m c).after w t)
                  | false => owns (c : Thread nD τ) ((cfg0.win w).stage (cfg0.slots t w)) fullShare ((dat0 m c).after w t)) := by
  rw [bigSep_W0, bigSep_W0, show (dat0 m c).Φ t.castSucc = iprop(talkSt m c t.val ∗ idleBufs c ∗ ∃ r, prngReg c r) from rfl,
    show (dat0 m c).Φ t.succ = iprop(talkSt m c (t.val + 1) ∗ idleBufs c ∗ ∃ r, prngReg c r) from rfl]
  simp only [show idle0 1 (grid0.coords t) = true from hi, show (win0 1).flush t = false from hf]
  iintro ⟨⟨HT, HI, Hp⟩, HO, ⟨%d0, Hx⟩, HR, ⟨%d2, Hxb⟩⟩
  ihave HO := (owesAt_elim m c t.castSucc n hn) $$ HO
  icases HO with ⟨%W, HO⟩
  ihave Hx := (show (owns (c : Thread nD τ) (st0_0 t) fullShare ((dat0 m c).before 0 t d0) : sProp 𝕄) ⊢ owns (c : Thread nD τ) (st0_0 t) fullShare (xblk m c t)
    from before_x m c t d0 ▸ BI.Entails.refl _) $$ Hx
  iapply (core _ W _) $$ [HT HO Hx Hxb]
  · isplitl [HT]; · iexact HT
    isplitl [HO]; · iexact HO
    isplitl [Hx]; · iexact Hx
    iexact Hxb
  iintro %W' HO HT Hx Hxb
  isplitl [HT HI Hp]
  · isplitl [HT]; · iexact HT
    isplitl [HI] <;> iassumption
  isplitl [HO]; · iapply (owesAt_intro m c t.succ n' hn' W'); iexact HO
  isplitl [Hx]; · iexact Hx
  isplitl [HR]; · iexact HR
  iexact Hxb

/-- The last point, likewise. -/
theorem body_last (t : Fin cfg0.N) (n : ℕ) (hn : due t.val = n) (hn' : due (t.val + 1) = 0)
    (hi : cfg0.idle 1 (cfg0.grid.coords t) = false)
    (core : ∀ (Q : PUnit → sProp 𝕄) (W : Waits sig Unit) (Y : Vec F S1024x2048 .bf16) (R : Vec F S64x128 .f32),
      iprop(talkSt m c t.val ∗ owes (c : Thread nD τ) (owe c n) W ∗ owns (c : Thread nD τ) (st0_0 t) fullShare (xblk m c t) ∗ owns (c : Thread nD τ) (st0_2 t) fullShare Y
          ∗ owns (c : Thread nD τ) (st0_1 t) fullShare R)
        ⊢ iprop((∀ W', owes (c : Thread nD τ) (0 : CellTallies nD τ sig Unit) W' -∗ talkSt m c (t.val + 1) -∗ owns (c : Thread nD τ) (st0_0 t) fullShare (xblk m c t)
            -∗ owns (c : Thread nD τ) (st0_2 t) fullShare (k0_pay5 (xblk m c t)) -∗ owns (c : Thread nD τ) (st0_1 t) fullShare (routF m c) -∗ Q ⟨⟩) -∗ run c (bodyAt0 t) Q)) :
    iprop((dat0 m c).Φ t.castSucc ∗ (dat0 m c).owesAt () t.castSucc
        ∗ bigSep Finset.univ fun w : Fin cfg0.W => iprop(∃ d, owns (c : Thread nD τ) ((cfg0.win w).stage (cfg0.slots t w)) fullShare ((dat0 m c).before w t d)))
      ⊢ run c (bodyAt0 t) fun _ =>
          iprop((dat0 m c).Φ t.succ ∗ (dat0 m c).owesAt () t.succ
            ∗ bigSep Finset.univ fun w : Fin cfg0.W =>
                  match cfg0.idle w (cfg0.grid.coords t) with
                  | true =>
                    match (cfg0.win w).flush t with
                    | false => iprop(∃ d, owns (c : Thread nD τ) ((cfg0.win w).stage (cfg0.slots t w)) fullShare ((dat0 m c).before w t d))
                    | true => owns (c : Thread nD τ) ((cfg0.win w).stage (cfg0.slots t w)) fullShare ((dat0 m c).after w t)
                  | false => owns (c : Thread nD τ) ((cfg0.win w).stage (cfg0.slots t w)) fullShare ((dat0 m c).after w t)) := by
  rw [bigSep_W0, bigSep_W0, show (dat0 m c).Φ t.castSucc = iprop(talkSt m c t.val ∗ idleBufs c ∗ ∃ r, prngReg c r) from rfl,
    show (dat0 m c).Φ t.succ = iprop(talkSt m c (t.val + 1) ∗ idleBufs c ∗ ∃ r, prngReg c r) from rfl]
  simp only [show idle0 1 (grid0.coords t) = false from hi]
  iintro ⟨⟨HT, HI, Hp⟩, HO, ⟨%d0, Hx⟩, ⟨%d1, HR⟩, ⟨%d2, Hxb⟩⟩
  ihave HO := (owesAt_elim m c t.castSucc n hn) $$ HO
  icases HO with ⟨%W, HO⟩
  ihave Hx := (show (owns (c : Thread nD τ) (st0_0 t) fullShare ((dat0 m c).before 0 t d0) : sProp 𝕄) ⊢ owns (c : Thread nD τ) (st0_0 t) fullShare (xblk m c t)
    from before_x m c t d0 ▸ BI.Entails.refl _) $$ Hx
  iapply (core _ W _ _) $$ [HT HO Hx Hxb HR]
  · isplitl [HT]; · iexact HT
    isplitl [HO]; · iexact HO
    isplitl [Hx]; · iexact Hx
    isplitl [Hxb]; · iexact Hxb
    iexact HR
  iintro %W' HO HT Hx Hxb HR
  isplitl [HT HI Hp]
  · isplitl [HT]; · iexact HT
    isplitl [HI] <;> iassumption
  isplitl [HO]; · iapply (owesAt_intro m c t.succ 0 hn' W'); iexact HO
  isplitl [Hx]; · iexact Hx
  isplitl [HR]; · iexact HR
  iexact Hxb

theorem core_low (t : Fin cfg0.N) (h0 : t.val ≠ 0) (h4 : t.val + 1 < 4)
    (h1 : ¬ k0_cond1 (grid0.coords t) = 1#1) (h2 : ¬ k0_cond2 (grid0.coords t) = 1#1) (h3 : ¬ k0_cond3 (grid0.coords t) = 1#1)
    (Q : PUnit → sProp 𝕄) (W : Waits sig Unit) (Y : Vec F S1024x2048 .bf16) :
      iprop(talkSt m c t.val ∗ owes (c : Thread nD τ) (owe c 6) W ∗ owns (c : Thread nD τ) (st0_0 t) fullShare (xblk m c t) ∗ owns (c : Thread nD τ) (st0_2 t) fullShare Y)
        ⊢ iprop((∀ W', owes (c : Thread nD τ) (owe c 6) W' -∗ talkSt m c (t.val + 1) -∗ owns (c : Thread nD τ) (st0_0 t) fullShare (xblk m c t)
            -∗ owns (c : Thread nD τ) (st0_2 t) fullShare (k0_pay5 (xblk m c t)) -∗ Q ⟨⟩) -∗ run c (bodyAt0 t) Q) := by
  unfold talkSt
  rw [if_neg h0, if_pos (show t.val < 4 by omega), if_neg (Nat.succ_ne_zero _), if_pos h4]
  iintro ⟨⟨He, HL, HG⟩, HO, Hx, Hxb⟩ Hk
  iapply (run_point_low m c t _ _ _ _ _ _ _ _ h1 h2 h3 Y) $$ [HL Hx Hxb]
  · isplitl [HL]; · iexact HL
    isplitl [Hx] <;> iassumption
  iintro HL Hx Hxb
  iapply Hk $$ %W HO [He HL HG] Hx Hxb
  isplitl [He]; · iexact He
  isplitl [HL] <;> iassumption

theorem core_hi (t : Fin cfg0.N) (h0 : 4 ≤ t.val) (h8 : t.val + 1 < 8)
    (h1 : ¬ k0_cond1 (grid0.coords t) = 1#1) (h2 : ¬ k0_cond2 (grid0.coords t) = 1#1) (h3 : ¬ k0_cond3 (grid0.coords t) = 1#1)
    (Q : PUnit → sProp 𝕄) (W : Waits sig Unit) (Y : Vec F S1024x2048 .bf16) :
      iprop(talkSt m c t.val ∗ owes (c : Thread nD τ) (owe c 3) W ∗ owns (c : Thread nD τ) (st0_0 t) fullShare (xblk m c t) ∗ owns (c : Thread nD τ) (st0_2 t) fullShare Y)
        ⊢ iprop((∀ W', owes (c : Thread nD τ) (owe c 3) W' -∗ talkSt m c (t.val + 1) -∗ owns (c : Thread nD τ) (st0_0 t) fullShare (xblk m c t)
            -∗ owns (c : Thread nD τ) (st0_2 t) fullShare (k0_pay5 (xblk m c t)) -∗ Q ⟨⟩) -∗ run c (bodyAt0 t) Q) := by
  unfold talkSt
  rw [if_neg (show ¬ t.val = 0 by omega), if_neg (show ¬ t.val < 4 by omega), if_pos (show t.val < 8 by omega), if_neg (Nat.succ_ne_zero _),
    if_neg (show ¬ t.val + 1 < 4 by omega), if_pos h8]
  iintro ⟨⟨He, ⟨HL, HH⟩, HG⟩, HO, Hx, Hxb⟩ Hk
  iapply (run_point_hi m c t _ _ _ _ _ _ _ _ h0 h1 h2 h3 Y) $$ [HH Hx Hxb]
  · isplitl [HH]; · iexact HH
    isplitl [Hx] <;> iassumption
  iintro HH Hx Hxb
  iapply Hk $$ %W HO [He HL HH HG] Hx Hxb
  isplitl [He]; · iexact He
  isplitl [HL HH]; · isplitl [HL] <;> iassumption
  iexact HG

theorem core_first (Q : PUnit → sProp 𝕄) (W : Waits sig Unit) (Y : Vec F S1024x2048 .bf16) :
      iprop(talkSt m c t0_0.val ∗ owes (c : Thread nD τ) (owe c 9) W ∗ owns (c : Thread nD τ) (st0_0 t0_0) fullShare (xblk m c t0_0) ∗ owns (c : Thread nD τ) (st0_2 t0_0) fullShare Y)
        ⊢ iprop((∀ W', owes (c : Thread nD τ) (owe c 6) W' -∗ talkSt m c (t0_0.val + 1) -∗ owns (c : Thread nD τ) (st0_0 t0_0) fullShare (xblk m c t0_0)
            -∗ owns (c : Thread nD τ) (st0_2 t0_0) fullShare (k0_pay5 (xblk m c t0_0)) -∗ Q ⟨⟩) -∗ run c (bodyAt0 t0_0) Q) := by
  unfold talkSt
  rw [if_pos (show t0_0.val = 0 from rfl), if_neg (Nat.succ_ne_zero _), if_pos (show t0_0.val + 1 < 4 by decide)]
  iintro ⟨⟨⟨%κ, #He⟩, HL, HG⟩, HO, Hx, Hxb⟩ Hk
  iapply (run_point_first m c t0_0 κ _ _ _ _ _ _ _ _ (by decide) (by decide) (by decide) (accF m) W Y) $$ [HO HL HG Hx Hxb]
  · isplitr; · iexact He
    isplitl [HO]; · iexact HO
    isplitl [HL]; · iexact HL
    isplitl [HG]; · iexact HG
    isplitl [Hx] <;> iassumption
  iintro HO HL HG Hx Hxb
  iapply Hk $$ %W HO [HL HG] Hx Hxb
  isplitr; · iexists κ; iexact He
  isplitl [HL] <;> iassumption

theorem core_send (Q : PUnit → sProp 𝕄) (W : Waits sig Unit) (Y : Vec F S1024x2048 .bf16) :
      iprop(talkSt m c t0_3.val ∗ owes (c : Thread nD τ) (owe c 6) W ∗ owns (c : Thread nD τ) (st0_0 t0_3) fullShare (xblk m c t0_3) ∗ owns (c : Thread nD τ) (st0_2 t0_3) fullShare Y)
        ⊢ iprop((∀ W', owes (c : Thread nD τ) (owe c 3) W' -∗ talkSt m c (t0_3.val + 1) -∗ owns (c : Thread nD τ) (st0_0 t0_3) fullShare (xblk m c t0_3)
            -∗ owns (c : Thread nD τ) (st0_2 t0_3) fullShare (k0_pay5 (xblk m c t0_3)) -∗ Q ⟨⟩) -∗ run c (bodyAt0 t0_3) Q) := by
  unfold talkSt
  rw [if_neg (show ¬ t0_3.val = 0 by decide), if_pos (show t0_3.val < 4 by decide), if_neg (Nat.succ_ne_zero _), if_neg (show ¬ t0_3.val + 1 < 4 by decide), if_pos (show t0_3.val + 1 < 8 by decide)]
  iintro ⟨⟨⟨%κ, #He⟩, HL, HG⟩, HO, Hx, Hxb⟩ Hk
  iapply (run_point_send m c t0_3 κ _ _ _ _ _ _ _ _ rfl (by decide) (by decide) (by decide) W Y) $$ [HO HL HG Hx Hxb]
  · isplitr; · iexact He
    isplitl [HO]; · iexact HO
    isplitl [HL]; · iexact HL
    isplitl [HG]; · iexact HG
    isplitl [Hx] <;> iassumption
  iintro %W' HO HL HG Hx Hxb
  iapply Hk $$ %W' HO [HL HG] Hx Hxb
  isplitr; · iexists κ; iexact He
  isplitl [HL]; · iexact HL
  iexact HG

theorem core_last (Q : PUnit → sProp 𝕄) (W : Waits sig Unit) (Y : Vec F S1024x2048 .bf16) (R : Vec F S64x128 .f32) :
      iprop(talkSt m c t0_7.val ∗ owes (c : Thread nD τ) (owe c 3) W ∗ owns (c : Thread nD τ) (st0_0 t0_7) fullShare (xblk m c t0_7) ∗ owns (c : Thread nD τ) (st0_2 t0_7) fullShare Y
          ∗ owns (c : Thread nD τ) (st0_1 t0_7) fullShare R)
        ⊢ iprop((∀ W', owes (c : Thread nD τ) (0 : CellTallies nD τ sig Unit) W' -∗ talkSt m c (t0_7.val + 1) -∗ owns (c : Thread nD τ) (st0_0 t0_7) fullShare (xblk m c t0_7)
            -∗ owns (c : Thread nD τ) (st0_2 t0_7) fullShare (k0_pay5 (xblk m c t0_7)) -∗ owns (c : Thread nD τ) (st0_1 t0_7) fullShare (routF m c) -∗ Q ⟨⟩) -∗ run c (bodyAt0 t0_7) Q) := by
  unfold talkSt
  rw [if_neg (show ¬ t0_7.val = 0 by decide), if_neg (show ¬ t0_7.val < 4 by decide), if_pos (show t0_7.val < 8 by decide), if_neg (Nat.succ_ne_zero _),
    if_neg (show ¬ t0_7.val + 1 < 4 by decide), if_neg (show ¬ t0_7.val + 1 < 8 by decide)]
  iintro ⟨⟨⟨%κ, #He⟩, HL, HG⟩, HO, Hx, Hxb, HR⟩ Hk
  iapply (run_point_last m c t0_7 κ _ _ _ _ _ _ _ _ rfl (by decide) (by decide) (by decide) W Y R) $$ [HO HL HG Hx Hxb HR]
  · isplitr; · iexact He
    isplitl [HO]; · iexact HO
    isplitl [HL]; · iexact HL
    isplitl [HG]; · iexact HG
    isplitl [Hx]; · iexact Hx
    isplitl [Hxb] <;> iassumption
  iintro %W' HO HL HG Hx Hxb HR
  iapply Hk $$ %W' HO [HL HG] Hx Hxb HR
  isplitl [HL] <;> iassumption

/-- The exchange's body at every point. -/
theorem body0 : BodyObligation (dat0 m c) defs₀ 𝒱₀ () Set.univ := fun t => by
  rcases fin_N0 t with rfl | rfl | rfl | rfl | rfl | rfl | rfl | rfl
  · exact body_quiet m c t0_0 9 6 rfl rfl (by decide) (by decide) (core_first m c)
  · exact body_quiet m c t0_1 6 6 rfl rfl (by decide) (by decide) (core_low m c t0_1 (by decide) (by decide) (by decide) (by decide) (by decide))
  · exact body_quiet m c t0_2 6 6 rfl rfl (by decide) (by decide) (core_low m c t0_2 (by decide) (by decide) (by decide) (by decide) (by decide))
  · exact body_quiet m c t0_3 6 3 rfl rfl (by decide) (by decide) (core_send m c)
  · exact body_quiet m c t0_4 3 3 rfl rfl (by decide) (by decide) (core_hi m c t0_4 (by decide) (by decide) (by decide) (by decide) (by decide))
  · exact body_quiet m c t0_5 3 3 rfl rfl (by decide) (by decide) (core_hi m c t0_5 (by decide) (by decide) (by decide) (by decide) (by decide))
  · exact body_quiet m c t0_6 3 3 rfl rfl (by decide) (by decide) (core_hi m c t0_6 (by decide) (by decide) (by decide) (by decide) (by decide))
  · exact body_last m c t0_7 3 rfl rfl (by decide) (core_last m c)

end Cert.KernelIdeal.Exchange

end
-- ==== Proof.Scale.lean ====
/-
  The scaling call: what its windows hold at every grid point, and its body there.
-/
module

public import proofs.«01_k».proof.Proof.Talk

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (V : Valuation τ sig (Elt F)) (c : Dev nD)

/-! ## The scaling call: its body at every point, over any contents `V` of the arrays -/

/-- The arrays the call finds. -/
def inArr (w : Fin cfg1.W) : Buf (Elt F) ((cfg1.win w).arr.view.loc (c : Thread nD τ)) := V (Proc.devRef .tc (Pipeline.arrRef spec1 w))
/-- The rows of `x` (rounded copy) at point `t`. -/
def xin (t : Fin cfg1.N) : Vec F S1024x2048 .bf16 := ((cfg1.win 0).blk t).view.read (Elt F) (inArr V c 0)
/-- The row factors at point `t`. -/
def rin (t : Fin cfg1.N) : Vec F S8x128 .f32 := ((cfg1.win 1).blk t).view.read (Elt F) (inArr V c 1)
/-- The weights, as the staging buffer holds them at point `t`. -/
def gin (t : Fin cfg1.N) : Vec F S1x2048 .bf16 := Pipeline.heldIn cfg1 (inArr V c) 2 t.val t.isLt

/-- What the call stores, from the rows, the factors and the weights. -/
def scaled (X : Vec F S1024x2048 .bf16) (R : Vec F S8x128 .f32) (Gm : Vec F S1x2048 .bf16) : FVec F S1024x2048 .bf16 :=
  k1_pay1 (iota .tc S1024x128 32 [1] iota_S1024x128_d1_w32) (k1_pay2 R) (Scalar.select (Scalar.cmpi .eq 128#32 0#32) 1#32 128#32) k1_pay3 k1_pay4 k1_pay5
    (Scalar.cmpi .slt (Scalar.select (Scalar.cmpi .eq 128#32 0#32) 1#32 128#32) 0#32) X Gm

/-- A scoped buffer, whole, at contents not named, for the buffers the scaling call leaves alone. -/
def idleBufs1 : sProp 𝕄 :=
  iprop(anyPt c cc0_stg0_0 ∗ anyPt c cc0_stg0_1 ∗ anyPt c cc0_stg1_0 ∗ anyPt c cc0_stg2_0 ∗ anyPt c cc0_stg2_1 ∗ anyPt c cc0_scratch0 ∗ anyPt c cc0_scratch1)

/-- The scaling call's proof data. -/
def dat1 : Dat τ (Elt F) Unit ℕ UU ℕ cfg1 c where
  A w := inArr V c w
  after w t := match w with
    | 0 => xin V c t
    | 1 => rin V c t
    | 2 => gin V c t
    | 3 => scaled (xin V c t) (rin V c t) (gin V c t)
  Φ _ := iprop(idleBufs1 c ∗ ∃ r, prngReg c r)
  q _ := fullShare
  owed _ := 0

theorem before1_x (t : Fin cfg1.N) (d) : (dat1 V c).before 0 t d = xin V c t :=
  ((dat1 V c).before_in_eq_fetched 0 rfl (fun _ => rfl) (fun _ _ _ => rfl) (fun _ => rfl) t d).trans rfl
theorem before1_r (t : Fin cfg1.N) (d) : (dat1 V c).before 1 t d = rin V c t :=
  ((dat1 V c).before_in_eq_fetched 1 rfl (fun _ => rfl) (fun _ _ _ => rfl) (fun _ => rfl) t d).trans rfl
theorem before1_g (t : Fin cfg1.N) (d) : (dat1 V c).before 2 t d = gin V c t :=
  (dat1 V c).before_eq_heldIn 2 rfl (fun _ => rfl) (fun _ _ => rfl) (fun _ => rfl) t d

theorem run_scale (t : Fin cfg1.N) (a1 : Memref sig .tc .vmem S1024x2048 .bf16) (h1 : a1.IsWhole) (a2 : Memref sig .tc .vmem S8x128 .f32) (h2 : a2.IsWhole)
    (a3 : Memref sig .tc .vmem S1x2048 .bf16) (h3 : a3.IsWhole) (a4 : Memref sig .tc .vmem S1024x2048 .bf16) (h4 : a4.IsWhole)
    (X : Vec F S1024x2048 .bf16) (R : Vec F S8x128 .f32) (Gm : Vec F S1x2048 .bf16) (Y : Vec F S1024x2048 .bf16) {Q : PUnit → sProp 𝕄} :
    iprop(owns (c : Thread nD τ) a1 fullShare X ∗ owns (c : Thread nD τ) a2 fullShare R ∗ owns (c : Thread nD τ) a3 fullShare Gm ∗ owns (c : Thread nD τ) a4 fullShare Y)
      ⊢ iprop((owns (c : Thread nD τ) a1 fullShare X -∗ owns (c : Thread nD τ) a2 fullShare R -∗ owns (c : Thread nD τ) a3 fullShare Gm
            -∗ owns (c : Thread nD τ) a4 fullShare (scaled X R Gm) -∗ Q ⟨⟩)
          -∗ run c (cc1__scale_body (grid1.coords t) a1 h1 a2 h2 a3 h3 a4 h4) Q) := by
  rw [cc1__scale_body_eq_skeleton]; unfold cc1__scale_body_skel
  rw [k1_part1_eq_skeleton]; unfold k1_part1_skel
  simp only [Prog.lift, Prog.bind_op, Prog.bind_ret, Prog.pure_eq_ret]
  iintro ⟨HX, HR, HG, HY⟩ Hk
  iapply (run_load_whole c a2 (by funext a; fin_cases a <;> rfl) R) $$ HR
  iintro HR
  iapply (run_load_whole c a1 (by funext a; fin_cases a <;> rfl) X) $$ HX
  iintro HX
  iapply (run_load_whole c a3 (by funext a; fin_cases a <;> rfl) Gm) $$ HG
  iintro HG
  iapply (run_load_whole c a4 (by funext a; fin_cases a <;> rfl) Y) $$ HY
  iintro HY
  iapply (run_store_whole c a4 (by funext a; fin_cases a <;> rfl) Y) $$ HY
  iintro HY
  iapply run_ret
  iapply Hk $$ HX HR HG [HY]
  iexact HY

/-- The scaling body at every point. -/
theorem body1 : BodyObligation (dat1 V c) defs₀ 𝒱₀ () Set.univ := fun t => by
  show iprop((dat1 V c).Φ t.castSucc ∗ (dat1 V c).owesAt () t.castSucc
        ∗ bigSep Finset.univ fun w : Fin cfg1.W => iprop(∃ d, owns (c : Thread nD τ) ((cfg1.win w).stage (cfg1.slots t w)) fullShare ((dat1 V c).before w t d)))
      ⊢ run c (bodyAt1 t) fun _ =>
          iprop((dat1 V c).Φ t.castSucc ∗ (dat1 V c).owesAt () t.castSucc
            ∗ bigSep Finset.univ fun w : Fin cfg1.W => owns (c : Thread nD τ) ((cfg1.win w).stage (cfg1.slots t w)) fullShare ((dat1 V c).after w t))
  rw [bigSep_W1, bigSep_W1]
  simp only [before1_x, before1_r, before1_g]
  iintro ⟨HΦ, HO, ⟨%d0, HX⟩, ⟨%d1, HR⟩, ⟨%d2, HG⟩, ⟨%d3, HY⟩⟩
  iapply (run_scale c t _ _ _ _ _ _ _ _ (xin V c t) (rin V c t) (gin V c t) _) $$ [HX HR HG HY]
  · isplitl [HX]; · iexact HX
    isplitl [HR]; · iexact HR
    isplitl [HG] <;> iassumption
  iintro HX HR HG HY
  isplitl [HΦ]; · iexact HΦ
  isplitl [HO]; · iexact HO
  isplitl [HX]; · iexact HX
  isplitl [HR]; · iexact HR
  isplitl [HG]; · iexact HG
  iexact HY

end Cert.KernelIdeal.Exchange

end
-- ==== Proof.Segs.lean ====
/-
  The two calls and the step between them as parts of the program.
-/
module

public import proofs.«01_k».proof.Proof.Scale
public import proofs.«01_k».proof.Proof.Gen.KernelIdeal.Regions
public import Idealize.ShloMosaic.Lib.Pipeline.RegionTalk

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (c : Dev nD)

/-! ## The arrays between the parts of the program -/

/-- At launch. -/
def U0 : Valuation τ sig (Elt F) := fun b => m (c, b)
/-- After the exchange. -/
def U1 : Valuation τ sig (Elt F) :=
  Function.update (Function.update (U0 m c) (Proc.devRef .tc main_v1_0) ((dat0 m c).arrAt 1 cfg0.N)) (Proc.devRef .tc main_v1_1) ((dat0 m c).arrAt 2 cfg0.N)
/-- After the weights are laid out as a row. -/
def U2 : Valuation τ sig (Elt F) := StableHlo.after hostOps1 (U1 m c)
/-- After the scaling. -/
def U3 : Valuation τ sig (Elt F) := Function.update (U2 m c) (Proc.devRef .tc main_v3) ((dat1 (U2 m c) c).arrAt 3 cfg1.N)

theorem U1_of (r : Ref sig .tc) (h0 : r ≠ main_v1_0) (h1 : r ≠ main_v1_1) : U1 m c (Proc.devRef .tc r) = U0 m c (Proc.devRef .tc r) := by
  unfold U1
  rw [Function.update_of_ne (StableHlo.devRef_ne_of_ne h1), Function.update_of_ne (StableHlo.devRef_ne_of_ne h0)]
theorem U1_rout : U1 m c (Proc.devRef .tc main_v1_0) = (dat0 m c).arrAt 1 cfg0.N := by
  unfold U1
  rw [Function.update_of_ne (StableHlo.devRef_ne_of_ne (by decide)), Function.update_self]
theorem U1_xb : U1 m c (Proc.devRef .tc main_v1_1) = (dat0 m c).arrAt 2 cfg0.N := by
  unfold U1
  rw [Function.update_self]
theorem U2_of (r : Ref sig .tc) (h : r ∉ Gen.hostOps1_W) : U2 m c (Proc.devRef .tc r) = U1 m c (Proc.devRef .tc r) :=
  StableHlo.after_of_writes_sub hostOps1 _ hostOps1_writes h
theorem U3_of (r : Ref sig .tc) (h : r ≠ main_v3) : U3 m c (Proc.devRef .tc r) = U2 m c (Proc.devRef .tc r) := by
  unfold U3
  rw [Function.update_of_ne (StableHlo.devRef_ne_of_ne h)]
theorem U3_out : U3 m c (Proc.devRef .tc main_v3) = (dat1 (U2 m c) c).arrAt 3 cfg1.N := by
  unfold U3
  rw [Function.update_self]

/-- An argument ends as it began. -/
theorem U3_arg (r : Ref sig .tc) (h0 : r ≠ main_v1_0) (h1 : r ≠ main_v1_1) (h2 : r ∉ Gen.hostOps1_W) (h3 : r ≠ main_v3) :
    U3 m c (Proc.devRef .tc r) = m (c, Proc.devRef .tc r) :=
  (U3_of m c r h3).trans ((U2_of m c r h2).trans (U1_of m c r h0 h1))

/-! ## The two calls as parts of the program -/

abbrev pdats : (p : Fin 2) → (c : Dev nD) → Dat τ (Elt F) Unit ℕ UU ℕ (cfgs p) c
  | 0 => fun c => dat0 m c
  | 1 => fun c => dat1 (U2 m c) c

/-- The receive credits of a device. -/
def rCr (c : Dev nD) (r : Fin 2) (k : Fin 3) : sProp 𝕄 := cred (tallyAt (recvCell c r (nx c k)) () N)
/-- The rights to open a device's own cells. -/
def opens (c : Dev nD) : sProp 𝕄 := bigSep Finset.univ fun q : Fin 14 => openTok ER ((c : Thread nD τ), osem q)
/-- What a device brings to the exchange. -/
def bring (c : Dev nD) : sProp 𝕄 :=
  iprop((∃ κ, records (accF m) κ) ∗ (tokBar c 0 ∗ tokBar c 1 ∗ tokBar c 2) ∗ barIn c ∗ (toks c 0 0 ∗ toks c 0 1 ∗ toks c 0 2)
    ∗ (toks c 1 0 ∗ toks c 1 1 ∗ toks c 1 2) ∗ (rCr c 0 0 ∗ rCr c 0 1 ∗ rCr c 0 2) ∗ (rCr c 1 0 ∗ rCr c 1 1 ∗ rCr c 1 2) ∗ opens c)
/-- The same once its own cells are open. -/
def ready (c : Dev nD) : sProp 𝕄 :=
  iprop((∃ κ, env (accF m) κ c) ∗ (tokBar c 0 ∗ tokBar c 1 ∗ tokBar c 2) ∗ barIn c ∗ (toks c 0 0 ∗ toks c 0 1 ∗ toks c 0 2) ∗ base c)
def leave (c : Dev nD) : sProp 𝕄 := semVal (barCell c) 0

/-- Every one of a device's own cells opened at once. -/
theorem open_own (κ : GSem nD τ sig → ℕ) :
    iprop(records (accF m) κ ∗ opens c ∗ Pipeline.ownSems0 osem c)
      ⊢ (|={Set.univ}=> (bigSep Finset.univ (fun q : Fin 14 => atPos ER ((c : Thread nD τ), osem q) 0 ∅ 0) ∗ opened c) : sProp 𝕄) := by
  have h1 (q : Fin 14) : iprop(records (accF m) κ ∗ (openTok ER ((c : Thread nD τ), osem q) ∗ semVal ((c : Thread nD τ), osem q) 0))
      ⊢ (|={Set.univ}=> (atPos ER ((c : Thread nD τ), osem q) 0 ∅ 0 ∗ reached ER ((c : Thread nD τ), osem q) 0) : sProp 𝕄) := by
    iintro ⟨#HR, Ho, Hs⟩
    iapply (Rounds.cell_open ER (talkRd (accF m)) (g := ((c : Thread nD τ), osem q)) (Set.mem_univ (κ ((c : Thread nD τ), osem q))))
    isplitr; · iapply (inv_at (accF m) κ (own_mem c q)) $$ HR
    isplitl [Ho] <;> iassumption
  unfold opens opened Pipeline.ownSems0
  rw [← bigSep_sep', ← bigSep_sep']
  exact (bigSep_with_persistent fun q _ => h1 q).trans (bigSep_fupd _ _)

theorem own_at : (bigSep Finset.univ (fun q : Fin 14 => atPos ER ((c : Thread nD τ), osem q) 0 ∅ 0) : sProp 𝕄)
    ⊢ iprop(sPos c 0 0 ∗ sPos c 0 1 ∗ sPos c 0 2 ∗ sPos c 1 0 ∗ sPos c 1 1 ∗ sPos c 1 2
      ∗ ownPos c 0 ∗ atPos ER (recvCell c 0 (nx c 0)) 0 ∅ 0 ∗ atPos ER (recvCell c 0 (nx c 1)) 0 ∅ 0 ∗ atPos ER (recvCell c 0 (nx c 2)) 0 ∅ 0
      ∗ ownPos c 1 ∗ atPos ER (recvCell c 1 (nx c 0)) 0 ∅ 0 ∗ atPos ER (recvCell c 1 (nx c 1)) 0 ∅ 0 ∗ atPos ER (recvCell c 1 (nx c 2)) 0 ∅ 0) := by
  rw [own_list c]; exact BI.Entails.refl _

theorem open0 : iprop(bring m c ∗ Pipeline.ownSems0 osem c ∗ levAts L lv) ⊢ (|={Set.univ}=> ready m c : sProp 𝕄) := by
  unfold bring ready base rIn rCr
  iintro ⟨⟨⟨%κ, #HR⟩, Hb, Hbi, Ht0, Ht1, ⟨C0, C1, C2⟩, ⟨D0, D1, D2⟩, Ho⟩, Hs, #HL⟩
  imod (open_own m c κ) $$ [Ho Hs] with ⟨Hat, #Hop⟩
  · isplitr; · iexact HR
    isplitl [Ho] <;> iassumption
  ihave Hat := (own_at (F := F) c) $$ Hat
  icases Hat with ⟨S0, S1, S2, S3, S4, S5, P0, A0, A1, A2, P1, B0, B1, B2⟩
  imodintro
  isplitr
  · iexists κ; unfold env
    isplitr; · iexact HR
    isplitr; · iexact Hop
    iexact HL
  isplitl [Hb]; · iexact Hb
  isplitl [Hbi]; · iexact Hbi
  isplitl [Ht0]; · iexact Ht0
  isplitl [C0 C1 C2 A0 A1 A2]
  · isplitl [C0 A0]; · isplitl [C0] <;> iassumption
    isplitl [C1 A1]; · isplitl [C1] <;> iassumption
    isplitl [C2] <;> iassumption
  isplitl [D0 D1 D2 B0 B1 B2]
  · isplitl [D0 B0]; · isplitl [D0] <;> iassumption
    isplitl [D1 B1]; · isplitl [D1] <;> iassumption
    isplitl [D2] <;> iassumption
  isplitl [S0 S1 S2]
  · isplitl [S0]; · iexact S0
    isplitl [S1] <;> iassumption
  isplitl [S3 S4 S5]
  · isplitl [S3]; · iexact S3
    isplitl [S4] <;> iassumption
  isplitl [P0 P1]; · isplitl [P0] <;> iassumption
  iexact Ht1

theorem in0 : iprop(Pipeline.scopedRest spec0 c ∗ (∃ r, prngReg c r) ∗ StableHlo.held (c.tc : Thread nD τ) ∅ (U0 m c) ∗ ready m c)
    ⊢ ((dat0 m c).Φ 0 : sProp 𝕄) := by
  rw [show (dat0 m c).Φ 0 = iprop(iprop((∃ κ, env (accF m) κ c) ∗ lowSt m c 0 ∗ g0 c) ∗ idleBufs c ∗ ∃ r, prngReg c r) from rfl, scopedRest0_eq]
  unfold ready g0 lowSt idleBufs accPt commPt
  iintro ⟨⟨⟨%f, Ha⟩, ⟨%g, Hc⟩, B⟩, Hp, -, He, Hb, Hbi, Ht, Hbase⟩
  isplitr [B Hp]
  · isplitl [He]; · iexact He
    isplitl [Ha]
    · iexists f
      isplitr; · ipureintro; exact fun j h => absurd h (Nat.not_lt_zero _)
      iexact Ha
    isplitl [Hb]; · iexact Hb
    isplitl [Hbi]; · iexact Hbi
    isplitl [Ht]; · iexact Ht
    isplitl [Hc]; · iexists g; iexact Hc
    iexact Hbase
  isplitl [B]; · iexact B
  iexact Hp

theorem out0 : ((dat0 m c).Φ (Fin.last cfg0.N) : sProp 𝕄)
    ⊢ iprop(Pipeline.scopedRest spec0 c ∗ (∃ r, prngReg c r) ∗ StableHlo.held (c.tc : Thread nD τ) ∅ (U1 m c) ∗ Pipeline.ownSems0 osem c ∗ leave c) := by
  rw [show (dat0 m c).Φ (Fin.last cfg0.N) = iprop(iprop(accPt c fullShare (accF m c) ∗ g3 c) ∗ idleBufs c ∗ ∃ r, prngReg c r) from rfl, scopedRest0_eq]
  unfold g3 idleBufs accPt commPt leave StableHlo.held
  rw [BI.bigSep_empty]
  iintro ⟨⟨Ha, ⟨Hb, Ho⟩, %f, Hc⟩, B, Hp⟩
  isplitl [Ha Hc B]
  · isplitl [Ha]; · iexists (accF m c); iexact Ha
    isplitl [Hc]; · iexists f; iexact Hc
    iexact B
  isplitl [Hp]; · iexact Hp
  isplitr; · iempintro
  isplitl [Ho] <;> iassumption

theorem in1 : iprop(Pipeline.scopedRest spec1 c ∗ (∃ r, prngReg c r)) ⊢ ((dat1 (U2 m c) c).Φ 0 : sProp 𝕄) := by
  rw [scopedRest1_eq]; exact BI.Entails.refl _
theorem out1 : ((dat1 (U2 m c) c).Φ (Fin.last cfg1.N) : sProp 𝕄) ⊢ iprop(Pipeline.scopedRest spec1 c ∗ (∃ r, prngReg c r)) := by
  rw [scopedRest1_eq]; exact BI.Entails.refl _

theorem kit0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0
theorem kit1 : Pipeline.PLaunchFacts (nD := nD) (τ := τ) (pcfgs (F := F)) 1 where
  cellOf_inj a := by rw [Subsingleton.elim a adm]; exact cellOf_inj
  win := winFacts1
  pre := Pipeline.PreFacts.none _
  block_pos := block_pos1
  arr_whole := arr_whole1
  stage_whole := stage_whole1

theorem stage_low0 : ∀ (w : Fin cfg0.W) (s : Fin (cfg0.win w).nbuf), lvR (role (.dma ((cfg0.win w).sem s))) ≤ 0 := by decide
theorem stage_low1 : ∀ (w : Fin cfg1.W) (s : Fin (cfg1.win w).nbuf), lvR (role (.dma ((cfg1.win w).sem s))) ≤ 0 := by decide

theorem cut0 (t : Fin (cfg0.N + 1)) (g : GSem nD τ sig) (i : Unit) (h : 0 < (dat0 m c).owed t g i) : i ∈ L g ∧ (0 : ℕ) < lv g i := by
  have h : 0 < owe c (due t.val) g i := h
  obtain ⟨j, _, rfl⟩ := owe_pos h
  exact ⟨by unfold L; rw [if_pos (oweCell_tc c j)]; exact Finset.mem_singleton_self _, (oweCell_lv c j).1⟩

theorem arr0_in (w : Fin cfg0.W) : (dat0 m c).arrAt w 0 = U0 m c (Proc.devRef .tc (Pipeline.arrRef spec0 w)) := by
  fin_cases w <;> rfl
theorem arr0_out (w : Fin cfg0.W) : (dat0 m c).arrAt w cfg0.N = U1 m c (Proc.devRef .tc (Pipeline.arrRef spec0 w)) := by
  fin_cases w
  · exact ((dat0 m c).arrAt_in 0 rfl _).trans (U1_of m c main_arg0 (by decide) (by decide)).symm
  · exact (U1_rout m c).symm
  · exact (U1_xb m c).symm
theorem arr1_out (w : Fin cfg1.W) : (dat1 (U2 m c) c).arrAt w cfg1.N = U3 m c (Proc.devRef .tc (Pipeline.arrRef spec1 w)) := by
  fin_cases w
  · exact ((dat1 (U2 m c) c).arrAt_in 0 rfl _).trans (U3_of m c main_v1_1 (by decide)).symm
  · exact ((dat1 (U2 m c) c).arrAt_in 1 rfl _).trans (U3_of m c main_v1_0 (by decide)).symm
  · exact ((dat1 (U2 m c) c).arrAt_in 2 rfl _).trans (U3_of m c main_v2 (by decide)).symm
  · exact (U3_out m c).symm

/-- The arrays the exchange does not touch. -/
abbrev rest0 : Finset (DevRef τ sig) := Pipeline.ucRefs τ sig \ Pipeline.arrRefs (τ := τ) spec0
/-- The arrays the scaling does not touch. -/
abbrev rest1 : Finset (DevRef τ sig) := Pipeline.ucRefs τ sig \ Pipeline.arrRefs (τ := τ) spec1

theorem arr_sub0 : Pipeline.arrRefs (τ := τ) spec0 ⊆ Pipeline.ucRefs τ sig := by decide
theorem arr_sub1 : Pipeline.arrRefs (τ := τ) spec1 ⊆ Pipeline.ucRefs τ sig := by decide

theorem rest0_eq : ∀ b ∈ rest0 \ ∅, U1 m c b = U0 m c b := by
  intro b hb
  have hb := (Finset.mem_sdiff.mp (Finset.mem_sdiff.mp hb).1).2
  unfold U1
  rw [Function.update_of_ne (by rintro rfl; exact hb (by decide)), Function.update_of_ne (by rintro rfl; exact hb (by decide))]
theorem rest1_eq : ∀ b ∈ rest1, U3 m c b = U2 m c b := by
  intro b hb
  have hb := (Finset.mem_sdiff.mp hb).2
  unfold U3
  rw [Function.update_of_ne (by rintro rfl; exact hb (by decide))]

set_option backward.isDefEq.respectTransparency.types false in
/-- The exchange. -/
def reg0 : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ rest0 (Finset.empty_subset _) kit0 rfl (fun c => (body0 m c).loose)
    (fun _ => 0) (fun c => owe c 9) (fun c => (zero_add _).symm) (fun _ => rfl) (fun _ => rfl) (fun c w => by fin_cases w <;> rfl)
    (U0 m) (U1 m) (rest0_eq m) (bring m) leave (ready m) leave (open0 m) (in0 m) (out0 m)
    (fun c => by iintro H; imodintro; iexact H)
    (fun _ => 0)
    ⟨fun c w s => by rw [L_tc]; exact Finset.mem_singleton_self _, fun c w s => stage_low0 w s, fun c t g i h => cut0 m c t g i h⟩
    (fun _ => iprop(emp)) (arr0_in m) (arr0_out m)

/-- What rides along once the exchange is over. -/
def after0 (c : Dev nD) : sProp 𝕄 := iprop(leave c ∗ (∃ r, prngReg c r) ∗ ∃ W, owes (c : Thread nD τ) (0 : CellTallies nD τ sig Unit) W)

set_option backward.isDefEq.respectTransparency.types false in
/-- The scaling. -/
def reg1 : Pipeline.RegionSeg (pcfgs (F := F)) adm (pdats m) () defs₀ 𝒱₀ L lv 1 :=
  Pipeline.RegionSeg.ofHeld (pcfgs (F := F)) adm (pdats m) () defs₀ 𝒱₀ L lv 1 (fun _ => 0) (fun c => iprop(∃ r, prngReg c r)) (fun c => iprop(∃ r, prngReg c r))
    kit1 rfl (fun c => (body1 (U2 m c) c).loose) (fun _ _ => rfl) (fun _ => rfl) (fun c w => by fin_cases w <;> rfl)
    (in1 m) (out1 m)
    (fun _ => 0)
    ⟨fun c w s => by rw [L_tc]; exact Finset.mem_singleton_self _, fun c w s => stage_low1 w s, fun c g i h => absurd h (Nat.lt_irrefl 0)⟩
    (fun c => iprop(StableHlo.held (c.tc : Thread nD τ) rest1 (U2 m c) ∗ leave c)) (U2 m) (U3 m) (fun _ _ => rfl) (arr1_out m)

/-- The layout of the weights. -/
def seg1 : Pipeline.HostSeg (pcfgs (F := F)) defs₀ 𝒱₀ L lv (Ix := Unit) (Name := ℕ) (U := UU) :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (U1 m) after0

theorem reg0_pre : iprop(StableHlo.held (c : Thread nD τ) (Pipeline.ucRefs τ sig) (U0 m c)
      ∗ bring m c ∗ (∃ r, prngReg c r) ∗ ∃ W, owes (c : Thread nD τ) (owe c 9) W) ⊢ (reg0 m).pre c := by
  show _ ⊢ iprop(StableHlo.held (c.tc : Thread nD τ) (Pipeline.arrRefs (τ := τ) spec0) (U0 m c) ∗ (∃ r, prngReg c r)
    ∗ (StableHlo.held (c.tc : Thread nD τ) rest0 (U0 m c) ∗ emp) ∗ bring m c ∗ ∃ Wd, owes (c : Thread nD τ) (0 + owe c 9) Wd)
  rw [zero_add, StableHlo.held_sub_split (c : Thread nD τ) arr_sub0]
  iintro ⟨⟨Ha, Hr⟩, HB, Hp, HO⟩
  isplitl [Ha]; · iexact Ha
  isplitl [Hp]; · iexact Hp
  isplitl [Hr]
  · isplitl [Hr]; · iexact Hr
    iempintro
  isplitl [HB] <;> iassumption

theorem reg0_post : (reg0 m).post c ⊢ iprop(StableHlo.held (c : Thread nD τ) (Pipeline.ucRefs τ sig) (U1 m c) ∗ after0 c) := by
  show iprop(StableHlo.held (c.tc : Thread nD τ) (Pipeline.arrRefs (τ := τ) spec0) (U1 m c) ∗ (∃ r, prngReg c r)
    ∗ (StableHlo.held (c.tc : Thread nD τ) rest0 (U1 m c) ∗ emp) ∗ leave c ∗ ∃ Wd, owes (c : Thread nD τ) (0 : CellTallies nD τ sig Unit) Wd) ⊢ _
  rw [StableHlo.held_sub_split (c : Thread nD τ) arr_sub0]
  unfold after0
  iintro ⟨Ha, Hp, ⟨Hr, -⟩, Hb, HO⟩
  isplitl [Ha Hr]; · isplitl [Ha] <;> iassumption
  isplitl [Hb]; · iexact Hb
  isplitl [Hp] <;> iassumption

theorem reg1_pre : iprop(StableHlo.held (c : Thread nD τ) (Pipeline.ucRefs τ sig) (U2 m c) ∗ after0 c) ⊢ (reg1 m).pre c := by
  show _ ⊢ iprop(StableHlo.held (c.tc : Thread nD τ) (Pipeline.arrRefs (τ := τ) spec1) (U2 m c) ∗ (∃ r, prngReg c r)
    ∗ (StableHlo.held (c.tc : Thread nD τ) rest1 (U2 m c) ∗ leave c) ∗ ∃ Wd, owes (c : Thread nD τ) (0 : CellTallies nD τ sig Unit) Wd)
  rw [StableHlo.held_sub_split (c : Thread nD τ) arr_sub1]
  unfold after0
  iintro ⟨⟨Ha, Hr⟩, Hb, Hp, HO⟩
  isplitl [Ha]; · iexact Ha
  isplitl [Hp]; · iexact Hp
  isplitl [Hr Hb]; · isplitl [Hr] <;> iassumption
  iexact HO

theorem reg1_post : (reg1 m).post c ⊢ iprop((StableHlo.held (c : Thread nD τ) (Pipeline.ucRefs τ sig) (U3 m c) ∗ leave c)
    ∗ ∃ W, owes (c : Thread nD τ) (0 : CellTallies nD τ sig Unit) W) := by
  show iprop(StableHlo.held (c.tc : Thread nD τ) (Pipeline.arrRefs (τ := τ) spec1) (U3 m c) ∗ (∃ r, prngReg c r)
    ∗ (StableHlo.held (c.tc : Thread nD τ) rest1 (U2 m c) ∗ leave c) ∗ ∃ Wd, owes (c : Thread nD τ) (0 : CellTallies nD τ sig Unit) Wd) ⊢ _
  rw [StableHlo.held_sub_split (c : Thread nD τ) arr_sub1, ← StableHlo.held_congr (c : Thread nD τ) (rest1_eq m c)]
  iintro ⟨Ha, -, ⟨Hr, Hb⟩, HO⟩
  isplitl [Ha Hr Hb]
  · isplitl [Ha Hr]; · isplitl [Ha] <;> iassumption
    iexact Hb
  iexact HO

end Cert.KernelIdeal.Exchange

end
-- ==== Proof.Run.lean ====
/-
  The launch of the program on the four devices, and its run.
-/
module

public import proofs.«01_k».proof.Proof.Segs

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## The tokens, by payer -/

/-- The duty a device's `i`-th token is for: three signals, six sends, six landings. -/
def tokOf (ci : Dev nD × Fin 15) : GSem nD τ sig × ℕ × Fin 4 :=
  match ci.2 with
  | 0 => (barCell (nx ci.1 0), 0, (0 : Fin 3).succ) | 1 => (barCell (nx ci.1 1), 0, (1 : Fin 3).succ) | 2 => (barCell (nx ci.1 2), 0, (2 : Fin 3).succ)
  | 3 => (sendCell ci.1 0 0, 0, 0) | 4 => (sendCell ci.1 0 1, 0, 0) | 5 => (sendCell ci.1 0 2, 0, 0)
  | 6 => (sendCell ci.1 1 0, 0, 0) | 7 => (sendCell ci.1 1 1, 0, 0) | 8 => (sendCell ci.1 1 2, 0, 0)
  | 9 => (recvCell (nx ci.1 0) 0 ci.1, 0, 0) | 10 => (recvCell (nx ci.1 1) 0 ci.1, 0, 0) | 11 => (recvCell (nx ci.1 2) 0 ci.1, 0, 0)
  | 12 => (recvCell (nx ci.1 0) 1 ci.1, 0, 0) | 13 => (recvCell (nx ci.1 1) 1 ci.1, 0, 0) | 14 => (recvCell (nx ci.1 2) 1 ci.1, 0, 0)

/-- A number that tells the tokens apart. -/
def tokKey (x : GSem nD τ sig × ℕ × Fin 4) : Fin 4 × Role × Fin 4 := (x.1.1.1, role x.1.2, x.2.2)

theorem tokOf_inj : Function.Injective tokOf := by
  refine Function.Injective.of_comp (f := tokKey) ?_
  decide +kernel

def talkToks : Finset (GSem nD τ sig × ℕ × Fin 4) := Finset.univ.map ⟨tokOf, tokOf_inj⟩

/-- A device's tokens. -/
def allToks (c : Dev nD) : sProp 𝕄 :=
  iprop((tokBar c 0 ∗ tokBar c 1 ∗ tokBar c 2) ∗ (toks c 0 0 ∗ toks c 0 1 ∗ toks c 0 2) ∗ (toks c 1 0 ∗ toks c 1 1 ∗ toks c 1 2))

theorem tok_list (Φ : Fin 15 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) := by
  rw [bigSep_eq_bigSepL_of_eq [0, 1, 2, 3, 4, 5, 6, 7, 8, 9, 10, 11, 12, 13, 14] (by decide) (by decide)]
  rfl

theorem toks_of (c : Dev nD) : (bigSep Finset.univ fun i : Fin 15 => dutyTok ER (tokOf (c, i)).1 (tokOf (c, i)).2.1 (tokOf (c, i)).2.2 : sProp 𝕄) ⊢ allToks c := by
  rw [tok_list]
  show iprop(tokBar c 0 ∗ tokBar c 1 ∗ tokBar c 2 ∗ tokSend c 0 0 ∗ tokSend c 0 1 ∗ tokSend c 0 2 ∗ tokSend c 1 0 ∗ tokSend c 1 1 ∗ tokSend c 1 2
    ∗ tokRecv c 0 0 ∗ tokRecv c 0 1 ∗ tokRecv c 0 2 ∗ tokRecv c 1 0 ∗ tokRecv c 1 1 ∗ tokRecv c 1 2) ⊢ _
  unfold allToks toks
  iintro ⟨B0, B1, B2, S0, S1, S2, S3, S4, S5, R0, R1, R2, R3, R4, R5⟩
  isplitl [B0 B1 B2]
  · isplitl [B0]; · iexact B0
    isplitl [B1] <;> iassumption
  isplitl [S0 S1 S2 R0 R1 R2]
  · isplitl [S0 R0]; · isplitl [S0] <;> iassumption
    isplitl [S1 R1]; · isplitl [S1] <;> iassumption
    isplitl [S2] <;> iassumption
  isplitl [S3 R3]; · isplitl [S3] <;> iassumption
  isplitl [S4 R4]; · isplitl [S4] <;> iassumption
  isplitl [S5] <;> iassumption

theorem toks_dealt : (bigSep talkToks fun x => (dutyTok ER x.1 x.2.1 x.2.2 : sProp 𝕄)) ⊢ bigSep Finset.univ fun c : Dev nD => allToks c := by
  unfold talkToks; rw [bigSep_map, bigSep_univ_prod]
  exact bigSep_mono fun c _ => toks_of c

/-! ## The credits -/

def hit (d : Dev nD) (g : GSem nD τ sig) (i : ℕ) : ℕ := if g = oweCell d i then 1 else 0

theorem owe_count (d : Dev nD) (g : GSem nD τ sig) : ∀ n, owe d n g () = ∑ i ∈ Finset.range n, oweAmt i * hit d g i
  | 0 => rfl
  | n + 1 => by
    rw [Finset.sum_range_succ, ← owe_count d g n, show owe d (n + 1) = owe d n + tallyAt (oweCell d n) () (oweAmt n) from rfl]
    unfold hit
    rw [Pi.add_apply, Finsupp.add_apply, tallyAt_apply]
    by_cases h : g = oweCell d n
    · rw [if_pos ⟨h, rfl⟩, if_pos h, Nat.mul_one]
    · rw [if_neg (fun h' => h h'.1), if_neg h, Nat.mul_zero]

theorem hit_bar : ∀ c : Dev nD, (∑ d : Dev nD, ∑ i ∈ Finset.range 6, hit d (barCell c) i) = 0 ∧ (∑ d : Dev nD, ∑ i ∈ Finset.range 3, hit d (barCell c) (6 + i)) = 3 := by
  decide +kernel
theorem hit_recv : ∀ (c : Dev nD) (r : Fin 2) (k : Fin 3), (∑ d : Dev nD, ∑ i ∈ Finset.range 6, hit d (recvCell c r (nx c k)) i) = 1
    ∧ (∑ d : Dev nD, ∑ i ∈ Finset.range 3, hit d (recvCell c r (nx c k)) (6 + i)) = 0 := by
  decide +kernel

theorem owed_total (g : GSem nD τ sig) : (∑ d : Dev nD, owe d 9 g ())
    = N * (∑ d : Dev nD, ∑ i ∈ Finset.range 6, hit d g i) + ∑ d : Dev nD, ∑ i ∈ Finset.range 3, hit d g (6 + i) := by
  rw [Finset.mul_sum, ← Finset.sum_add_distrib]
  refine Finset.sum_congr rfl fun d _ => ?_
  rw [owe_count, Finset.sum_range_add (n := 6) (m := 3), Finset.mul_sum]
  refine congrArg₂ (· + ·) (Finset.sum_congr rfl fun i hi => ?_) (Finset.sum_congr rfl fun i _ => ?_)
  · unfold oweAmt; rw [if_pos (Finset.mem_range.mp hi)]
  · unfold oweAmt; rw [if_neg (by omega), Nat.one_mul]

theorem launch_cell (g : GSem nD τ sig) (n : ℕ) (h : (∑ d : Dev nD, owe d 9 g ()) = n) (hg : g.1 = (c : Thread nD τ)) :
    tallyOn g (launchCredit (Pipeline.owing fun d => owe d 9) 0 g) = (tallyAt g () n : CellTallies nD τ sig Unit) := by
  obtain ⟨t, sm⟩ := g
  obtain rfl : t = (c : Thread nD τ) := hg
  unfold tallyAt; refine congrArg _ (Finsupp.ext fun u => ?_); cases u
  rw [Pipeline.launchCredit_owing, Finsupp.single_eq_same]
  exact h

/-- The semaphores a device is credited on. -/
def crSem (c : Dev nD) : Fin 7 → SemLoc sig
  | 0 => .reg barS
  | 1 => .dma (recvS 0 (nx c 0)) | 2 => .dma (recvS 0 (nx c 1)) | 3 => .dma (recvS 0 (nx c 2))
  | 4 => .dma (recvS 1 (nx c 0)) | 5 => .dma (recvS 1 (nx c 1)) | 6 => .dma (recvS 1 (nx c 2))
theorem crSem_inj : ∀ c, Function.Injective (crSem c) := by decide

theorem cr_list (Φ : Fin 7 → sProp 𝕄) : bigSep Finset.univ Φ = iprop(Φ 0 ∗ Φ 1 ∗ Φ 2 ∗ Φ 3 ∗ Φ 4 ∗ Φ 5 ∗ Φ 6) := by
  rw [bigSep_eq_bigSepL_of_eq [0, 1, 2, 3, 4, 5, 6] (by decide) (by decide)]
  rfl

theorem creds : (Pipeline.launchCred (fun d => owe d 9) c : sProp 𝕄)
    ⊢ iprop(cred (tallyAt (barCell c) () 3) ∗ (rCr c 0 0 ∗ rCr c 0 1 ∗ rCr c 0 2) ∗ (rCr c 1 0 ∗ rCr c 1 1 ∗ rCr c 1 2)) := by
  have hb := launch_cell c (barCell c) 3 (by rw [owed_total, (hit_bar c).1, (hit_bar c).2, Nat.mul_zero, Nat.zero_add]) rfl
  have hr (r : Fin 2) (k : Fin 3) := launch_cell c (recvCell c r (nx c k)) N
    (by rw [owed_total, (hit_recv c r k).1, (hit_recv c r k).2, Nat.mul_one, Nat.add_zero]) rfl
  unfold Pipeline.launchCred rCr
  rw [← hb, ← hr 0 0, ← hr 0 1, ← hr 0 2, ← hr 1 0, ← hr 1 1, ← hr 1 2]
  refine (bigSep_subset (Finset.subset_univ (Finset.univ.map ⟨crSem c, crSem_inj c⟩))).trans ?_
  rw [bigSep_map, cr_list]
  show (iprop(_ ∗ _ ∗ _ ∗ _ ∗ _ ∗ _ ∗ _) : sProp 𝕄) ⊢ _
  iintro ⟨B, C0, C1, C2, D0, D1, D2⟩
  isplitl [B]; · iexact B
  isplitl [C0 C1 C2]
  · isplitl [C0]; · iexact C0
    isplitl [C1]; · iexact C1
    iexact C2
  isplitl [D0]; · iexact D0
  isplitl [D1]; · iexact D1
  iexact D2

/-! ## The launch -/

theorem disjoint_cells : Disjoint (barCells : Finset (GSem nD τ sig)) ownCells := by
  rw [Finset.disjoint_left]
  rintro g h₁ h₂
  obtain ⟨c, -, rfl⟩ := Finset.mem_map.mp h₁
  obtain ⟨ck, -, h⟩ := Finset.mem_map.mp h₂
  exact absurd (congrArg (fun g : GSem nD τ sig => g.2) h) (fun h : (SemLoc.dma _ : SemLoc sig) = .reg barS => nomatch h)

/-- The launch element: the pipeline's and the exchange's. -/
def u₀ : UU :=
  (initOf (Pipeline.cells cfgs cellOf_inj) (Pipeline.launchToks cfgs cellOf_inj), launchOf barCells ownCells talkToks)

/-- The exchange's launch element, kept by device 0 until it is dealt. -/
def G (c : Dev nD) : sProp 𝕄 := if c = 0 then BI.own (ER (launchOf barCells ownCells talkToks)) else iprop(emp)
theorem G_all : bigSep Finset.univ (G (F := F)) = BI.own (ER (launchOf barCells ownCells talkToks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-- What the deal leaves with a device: its place at its barrier, the rights to open, its tokens. -/
def dealt (c : Dev nD) : sProp 𝕄 := iprop(atPos ER (barCell c) 0 ∅ 0 ∗ opens c ∗ allToks c)
/-- What a device has besides. -/
def brought (c : Dev nD) : sProp 𝕄 :=
  iprop(StableHlo.held (c : Thread nD τ) (Pipeline.ucRefs τ sig) (U0 m c)
    ∗ (cred (tallyAt (barCell c) () 3) ∗ (rCr c 0 0 ∗ rCr c 0 1 ∗ rCr c 0 2) ∗ (rCr c 1 0 ∗ rCr c 1 1 ∗ rCr c 1 2))
    ∗ owes (c : Thread nD τ) (owe c 9) ∅ ∗ ∃ r, prngReg c r)

abbrev T₀ (c : Dev nD) : sProp 𝕄 :=
  iprop(StableHlo.held (c : Thread nD τ) (Pipeline.ucRefs τ sig) (U0 m c) ∗ bring m c ∗ (∃ r, prngReg c r) ∗ ∃ W, owes (c : Thread nD τ) (owe c 9) W)
abbrev Tₙ (c : Dev nD) : sProp 𝕄 := iprop(StableHlo.held (c : Thread nD τ) (Pipeline.ucRefs τ sig) (U3 m c) ∗ leave c)

theorem T₀_intro (κ : GSem nD τ sig → ℕ) : iprop(records (accF m) κ ∗ (dealt c ∗ brought m c)) ⊢ T₀ m c := by
  unfold dealt brought T₀ bring allToks barIn
  iintro ⟨#HR, ⟨Hat, Ho, HB, HT, HT'⟩, Hh, ⟨H3, HC, HD⟩, HO, Hp⟩
  isplitl [Hh]; · iexact Hh
  isplitr [HO Hp]
  · isplitr; · iexists κ; iexact HR
    isplitl [HB]; · iexact HB
    isplitl [H3 Hat]; · isplitl [H3] <;> iassumption
    isplitl [HT]; · iexact HT
    isplitl [HT']; · iexact HT'
    isplitl [HC]; · iexact HC
    isplitl [HD] <;> iassumption
  isplitl [Hp]; · iexact Hp
  iexists ∅; iexact HO

theorem unscopedSems0_eq : (unscopedSems0 c : sProp 𝕄) = semVal (barCell c) 0 := by
  unfold unscopedSems0
  rw [show (Finset.univ.filter fun sm : SemLoc sig => ¬ sm.isScoped .tc = true) = {.reg barS} from by decide, bigSep_singleton]

/-- The launch. -/
theorem init :
    iprop((bigSep Finset.univ fun c : Dev nD => iprop(unscopedBufs c (fun b => m ((c : Thread nD τ).loc b)) ∗ unscopedSems0 c
          ∗ owes (c : Thread nD τ) (owe c 9) ∅ ∗ Pipeline.launchCred (fun d => owe d 9) c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (owe c 9) ∅ ∗ Pipeline.launchCred (fun d => owe d 9) c ∗ prngReg c (ρ c) ∗ G c)
      ⊢ (iprop(brought m c ∗ (semVal (barCell c) 0 ∗ G c)) : sProp 𝕄) := by
    rw [show unscopedBufs c (fun b => m ((c : Thread nD τ).loc b)) = StableHlo.held (c : Thread nD τ) (Pipeline.ucRefs τ sig) (U0 m c)
      from Pipeline.unscopedBufs_held c (U0 m c), unscopedSems0_eq]
    unfold brought
    iintro ⟨Hh, Hus, HO, Hcr, Hp, HG⟩
    ihave Hc := (creds (F := F) c) $$ Hcr
    isplitr [Hus HG]
    · isplitl [Hh]; · iexact Hh
      isplitl [Hc]; · iexact Hc
      isplitl [HO]; · iexact HO
      iexists (ρ c); iexact Hp
    isplitl [Hus] <;> iassumption
  have hv : bigSep Finset.univ (fun c : Dev nD => (semVal (barCell c) 0 : sProp 𝕄)) ⊢ bigSep barCells (fun g => (semVal g 0 : sProp 𝕄)) := by
    rw [bigSep_map]; exact BI.Entails.refl _
  have hat : bigSep barCells (fun g => (atPos ER g 0 ∅ 0 : sProp 𝕄)) ⊢ bigSep Finset.univ (fun c : Dev nD => (atPos ER (barCell c) 0 ∅ 0 : sProp 𝕄)) := by
    rw [bigSep_map]; exact BI.Entails.refl _
  have hopen : bigSep ownCells (fun g => (openTok ER g : sProp 𝕄)) ⊢ bigSep Finset.univ (fun c : Dev nD => opens c) := by
    rw [bigSep_map, bigSep_univ_prod]; exact BI.Entails.refl _
  have hun : (bigSep Finset.univ fun c : Dev nD => iprop(brought m c ∗ (semVal (barCell c) 0 ∗ G c)) : sProp 𝕄)
      ⊢ iprop(bigSep Finset.univ (fun c : Dev nD => brought m c) ∗ bigSep Finset.univ (fun c : Dev nD => semVal (barCell c) 0) ∗ bigSep Finset.univ (G (F := F))) := by
    rw [bigSep_sep', bigSep_sep']
  have hpair : iprop((bigSep Finset.univ (fun c : Dev nD => atPos ER (barCell c) 0 ∅ 0) ∗ bigSep Finset.univ (fun c : Dev nD => opens c)
        ∗ bigSep Finset.univ fun c : Dev nD => allToks c) ∗ bigSep Finset.univ fun c : Dev nD => brought m c)
      ⊢ (bigSep Finset.univ fun c : Dev nD => iprop(dealt c ∗ brought m c) : sProp 𝕄) := by
    unfold dealt
    rw [bigSep_sep', bigSep_sep', bigSep_sep']
  have hG : bigSep Finset.univ (G (F := F)) ⊢ BI.own (ER (launchOf barCells ownCells talkToks)) := by
    rw [G_all]
  iintro ⟨H, -⟩
  ihave H' := (show (bigSep Finset.univ fun c : Dev nD => iprop(unscopedBufs c (fun b => m ((c : Thread nD τ).loc b)) ∗ unscopedSems0 c
          ∗ owes (c : Thread nD τ) (owe c 9) ∅ ∗ Pipeline.launchCred (fun d => owe d 9) c ∗ prngReg c (ρ c) ∗ G c))
      ⊢ (bigSep Finset.univ fun c : Dev nD => iprop(brought m c ∗ (semVal (barCell c) 0 ∗ G c)) : sProp 𝕄) from bigSep_mono fun c _ => hcore c) $$ H
  ihave H2 := hun $$ H'; icases H2 with ⟨HB, Hv, HG⟩
  ihave Hu := hG $$ HG
  imod (Rounds.fund_launch ER (talkRd (accF m)) disjoint_cells (fun g _ h => h) talkToks) $$ [Hv Hu] with ⟨%κ, -, #Hinv, #Hr, Hat, Hopen, Htok⟩
  · isplitl [Hv]
    · iapply hv $$ Hv
    · iexact Hu
  imodintro
  iapply (bigSep_with_persistent (R := records (accF m) κ) (Φ := fun c => iprop(dealt c ∗ brought m c)) fun c _ => T₀_intro m c κ)
  isplitr
  · unfold records
    isplitr; · iexact Hinv
    iexact Hr
  iapply hpair
  isplitr [HB]
  · isplitl [Hat]; · iapply hat $$ Hat
    isplitl [Hopen]; · iapply hopen $$ Hopen
    iapply (toks_dealt (F := F)) $$ Htok
  · iexact HB

/-! ## The run -/

def segs : List (Pipeline.Seg (pcfgs (F := F)) adm (pdats m) () defs₀ 𝒱₀ L lv) := [.region (reg0 m), .host (seg1 m), .region (reg1 m)]

theorem unscoped_eq : ∀ sm : SemLoc sig, sm.isScoped .tc = false → sm = .reg barS := by decide

set_option backward.isDefEq.respectTransparency.types false in
/-- Every run of the program ends, the arguments as they began, the result as `U3` names it, every semaphore at zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v3) = (dat1 (U2 m c) c).arrAt 3 cfg1.N) ∧ r.2.sem = fun _ => 0) :=
  Pipeline.θ_run_regions_kit_sems (pcfgs (F := F)) adm (pdats m) () cellOf_inj EP defs₀ 𝒱₀ L lv m ρ main (segs m)
    (fun c Q => by
      rewrite [main_chain c, Pipeline.Seg.run_eq_chain, show (segs m).map Pipeline.Seg.prog = [
          Prog.lift (.customCall (Pipeline.entry 0) ()),
          StableHlo.seq hostOps1,
          Prog.lift (.customCall (Pipeline.entry 1) ()) ] from rfl]
      exact BI.Entails.refl _)
    (by simp only [segs, Pipeline.Seg.pipes_host, Pipeline.Seg.pipes_region, Pipeline.Seg.pipes_nil]; decide)
    (O₀ := fun d => owe d 9) (hL := L_of_ne) (G := G) (u₀ := u₀)
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := ⟨fun c => reg0_pre m c, fun c => reg0_post m c, fun c => reg1_pre m c, fun c => reg1_post m c⟩)
    (hinit := init m ρ)
    (QY := fun c s => (∀ b ∈ Pipeline.ucRefs τ sig, s.mem (c, b) = U3 m c b) ∧ s.sem (barCell c) = 0)
    (hfin := fun c s' => by
      dsimp only [Tₙ]; unfold leave StableHlo.held
      iintro ⟨⟨Hh, Hb⟩, HSI⟩
      ihave Hr := (pointsTo_read_all (Pipeline.ucRefs τ sig) (fun b => ((c : Thread nD τ).1, b)) (U3 m c) s') $$ [Hh HSI]
      · isplitl [Hh] <;> iassumption
      icases Hr with ⟨%h, HSI⟩
      icombine HSI Hb gives %hb
      imodintro
      isplitr
      · ipureintro
        exact ⟨h, by simpa using hb⟩
      iexact HSI)
    (hQ := fun s h hs => ⟨fun c => by
        have hu (r : Ref sig .tc) (hr : (Proc.devRef .tc r : DevRef τ sig) ∈ Pipeline.ucRefs τ sig) := (h c).1 (Proc.devRef .tc r) hr
        exact ⟨(hu main_arg0 (by decide)).trans (U3_arg m c main_arg0 (by decide) (by decide) (by decide) (by decide)),
          (hu main_arg1 (by decide)).trans (U3_arg m c main_arg1 (by decide) (by decide) (by decide) (by decide)),
          (hu main_v3 (by decide)).trans (U3_out m c)⟩,
      sem_eq_zero hs fun c sm hsm => by
        obtain rfl := unscoped_eq sm hsm
        exact (h c).2⟩)

end Cert.KernelIdeal.Exchange

end
-- ==== Proof.Ref.lean ====
/-
  The run of the reference on its one device: a straight line of whole-array operations. `refOut x g` is the array it
  leaves in its result from the two argument arrays `x` and `g`; the arguments keep what they held and no semaphore is
  left raised.
-/
module

public import proofs.«01_k».proof.Defs
public import proofs.«01_k».proof.Proof.Gen.ReferenceIdeal
public import Idealize.ShloMosaic.Lib.StableHlo.Run
public import Idealize.ShloMosaic.Lib.Quiescent

@[expose] public section

noncomputable section

namespace Cert.ReferenceIdeal.Straight

open Cert.ReferenceIdeal
open Facts₀ Facts
open Idealize.ShloMosaic Idealize.ShloMosaic.TcCoe Idealize.ShloMosaic.StableHlo Idealize.SL.Sem

variable {F : FTy → Type} [FloatOps F]

/-- The root mean square of each row, as a column. -/
def rms (x : FVec F S8192x8192 .bf16) : FVec F S8192x1 .f32 :=
  Host.sqrt (addf
    (Host.divf
      (broadcastInDim S8192x1 ![0] bcast_S8192_S8192x1_0
        (Host.reduceAdd (mulf (extf .f32 x bitsLt_bf16_f32) (extf .f32 x bitsLt_bf16_f32)) (constant S_ .f32 0x00000000#32)
          reducesTo_S8192x8192_S8192_d1 h_S_))
      (broadcastInDim S8192x1 ![] bcast_S_S8192x1 (constant S_ .f32 0x46000000#32)))
    (broadcastInDim S8192x1 ![] bcast_S_S8192x1 (constant S_ .f32 0x3727C5AC#32)))

/-- The reference's result: the row weights times the rows, over their root mean squares. -/
def refOut (x : FVec F S8192x8192 .bf16) (g : FVec F S8192 .bf16) : FVec F S8192x8192 .bf16 :=
  truncf .bf16
    (Host.divf
      (mulf
        (broadcastInDim S8192x8192 ![0, 1] bcast_S1x8192_S8192x8192_0_1
          (broadcastInDim S1x8192 ![1] bcast_S8192_S1x8192_1 (extf .f32 g bitsLt_bf16_f32)))
        (extf .f32 x bitsLt_bf16_f32))
      (broadcastInDim S8192x8192 ![0, 1] bcast_S8192x1_S8192x8192_0_1 (rms x)))
    bitsLt_bf16_f32

/-- The program's operations, in order. -/
abbrev steps : List (HloOp τ sig (Elt F)) :=
  [ unary main_arg0 main_v0 (extf .f32 · bitsLt_bf16_f32),
    unary main_arg1 main_v1 (extf .f32 · bitsLt_bf16_f32),
    binary main_v0 main_v0 main_v2 mulf,
    nullary main_cst (constant S_ .f32 0x00000000#32),
    binary main_v2 main_cst main_v3 (fun x v => Host.reduceAdd x v reducesTo_S8192x8192_S8192_d1 h_S_),
    unary main_v3 main_v4 (broadcastInDim S8192x1 ![0] bcast_S8192_S8192x1_0),
    nullary main_cst_0 (constant S_ .f32 0x46000000#32),
    unary main_cst_0 main_v5 (broadcastInDim S8192x1 ![] bcast_S_S8192x1),
    binary main_v4 main_v5 main_v6 Host.divf,
    nullary main_cst_1 (constant S_ .f32 0x3727C5AC#32),
    unary main_cst_1 main_v7 (broadcastInDim S8192x1 ![] bcast_S_S8192x1),
    binary main_v6 main_v7 main_v8 addf,
    unary main_v8 main_v9 Host.sqrt,
    unary main_v1 main_v10 (broadcastInDim S1x8192 ![1] bcast_S8192_S1x8192_1),
    unary main_v10 main_v11 (broadcastInDim S8192x8192 ![0, 1] bcast_S1x8192_S8192x8192_0_1),
    binary main_v11 main_v0 main_v12 mulf,
    unary main_v9 main_v13 (broadcastInDim S8192x8192 ![0, 1] bcast_S8192x1_S8192x8192_0_1),
    binary main_v12 main_v13 main_v14 Host.divf,
    unary main_v14 main_v15 (truncf .bf16 · bitsLt_bf16_f32) ]

theorem main_steps (c : Dev nD) : main (F := F) c = seq steps := rfl

theorem out_at (V : Valuation τ sig (Elt F)) :
    after steps V (main_v15 : DevRef τ sig) = refOut (V (main_arg0 : DevRef τ sig)) (V (main_arg1 : DevRef τ sig)) := by
  after_results
  rfl

theorem arg0_at (V : Valuation τ sig (Elt F)) : after steps V (main_arg0 : DevRef τ sig) = V (main_arg0 : DevRef τ sig) := by
  after_results

theorem arg1_at (V : Valuation τ sig (Elt F)) : after steps V (main_arg1 : DevRef τ sig) = V (main_arg1 : DevRef τ sig) := by
  after_results

theorem no_scoped_refs : (Finset.univ.filter fun b : Ref sig .tc => b.isScoped) = ∅ := by decide
theorem no_scoped_sems : (Finset.univ.filter fun sm : SemLoc sig => sm.isScoped .tc) = ∅ := by decide

theorem steps_on_tc : (steps : List (HloOp τ sig (Elt F))).Forall fun op => op.bufs ⊆ tcRefs τ sig :=
  ⟨unary_bufs_sub .., unary_bufs_sub .., binary_bufs_sub .., nullary_bufs_sub .., binary_bufs_sub .., unary_bufs_sub ..,
    nullary_bufs_sub .., unary_bufs_sub .., binary_bufs_sub .., nullary_bufs_sub .., unary_bufs_sub .., binary_bufs_sub ..,
    unary_bufs_sub .., unary_bufs_sub .., unary_bufs_sub .., binary_bufs_sub .., unary_bufs_sub .., binary_bufs_sub ..,
    unary_bufs_sub ..⟩

/-- From any memory with every semaphore at zero the reference ends with its result at `refOut` of its arguments, its
    arguments unchanged and its semaphores still at zero. -/
theorem run (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v15)
          = refOut (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono
    (fun r h => ⟨fun c => ⟨(h c main_v15).trans (out_at _), (h c main_arg0).trans (arg0_at _), (h c main_arg1).trans (arg1_at _)⟩,
      Idealize.ShloMosaic.sem_eq_zero_of_no_sems (by decide) r.2⟩)
    (run_seq no_scoped_refs no_scoped_sems defs main (fun _ => steps) main_steps (fun _ => steps_on_tc) m ρ)

end Cert.ReferenceIdeal.Straight

end
-- ==== Proof.Frames.lean ====
/-
  The three programs run to the end, keep their arguments and leave every semaphore at zero. The kernel read over bit
  patterns and the kernel read over the extended reals are one text, so one run serves both.
-/
module

public import proofs.«01_k».proof.Proof.Run
public import proofs.«01_k».proof.Proof.Ref
public import proofs.«01_k».proof.Proof.Gen.Kernel

@[expose] public section

noncomputable section

namespace Cert.Proof

open Idealize.ShloMosaic Idealize.ShloMosaic.TcCoe Idealize.SL.Sem

section
variable {F : FTy → Type} [FloatOps F]

/-! ## The two kernel programs are one text -/

theorem exchange_same : Cert.Kernel.cc0__partial_exchange_body (F := F) = Cert.KernelIdeal.cc0__partial_exchange_body (F := F) := rfl
theorem scale_same : Cert.Kernel.cc1__scale_body (F := F) = Cert.KernelIdeal.cc1__scale_body (F := F) := rfl

theorem bodies_same : Cert.Kernel.defs₀ (F := F) = Cert.KernelIdeal.defs₀ (F := F) := by
  unfold Cert.Kernel.defs₀ Cert.KernelIdeal.defs₀
  rw [exchange_same, scale_same]
  congr 1
  funext ℓ x
  match ℓ, x with
  | 0, (t, s) => rfl
  | 1, (t, s) => rfl
  | ⟨n + 2, h⟩, _ => exact absurd h (Nat.not_lt.2 (Nat.le_add_left _ _))

theorem defs_same : Cert.Kernel.defs (F := F) = Cert.KernelIdeal.defs (F := F) :=
  congrArg (fun d => Pipeline.defs (Cert.KernelIdeal.pcfgs (F := F)) d) bodies_same

end

theorem frame_kernel : Cert.quiescent_Kernel := fun m ρ _ => by
  rw [defs_same]
  exact (θ_run Cert.KernelIdeal.defs _ _).mono (fun _ h => ⟨fun c => ⟨(h.1 c).1, (h.1 c).2.1⟩, h.2⟩)
    (Cert.KernelIdeal.Exchange.run_main (F := Bits) m ρ)

theorem frame_kernelIdeal : Cert.quiescent_KernelIdeal := fun m ρ _ =>
  (θ_run Cert.KernelIdeal.defs _ _).mono (fun _ h => ⟨fun c => ⟨(h.1 c).1, (h.1 c).2.1⟩, h.2⟩)
    (Cert.KernelIdeal.Exchange.run_main (F := Ideal) m ρ)

theorem frame_referenceIdeal : Cert.quiescent_ReferenceIdeal := fun m ρ _ =>
  (θ_run Cert.ReferenceIdeal.defs _ _).mono (fun _ h => ⟨fun c => (h.1 c).2, h.2⟩)
    (Cert.ReferenceIdeal.Straight.run (F := Ideal) m ρ)

end Cert.Proof

end
-- ==== Proof.Math.lean ====
/-
  What the two bodies' arithmetic computes over the extended reals: the packed sums of squares of a block of rows, the
  unpacking of one packed number per row, and the scaled block.
-/
module

public import proofs.«01_k».proof.Proof.Scale
public import Idealize.ShloMosaic.Lib.Pointwise

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The masks' words -/

/-- A row number's remainder by 128 as the bodies compute it, compared with a lane. -/
theorem lane_word : ∀ n : Fin 1024,
    (Scalar.select
      (IntOp.andi
        (IntOp.xori
          (IntOp.cmpi .slt (IntOp.remsi .vector (BitVec.ofNat 32 n.val) (Scalar.select (Scalar.cmpi .eq 128#32 0#32) 1#32 128#32)) 0#32)
          (Scalar.cmpi .slt (Scalar.select (Scalar.cmpi .eq 128#32 0#32) 1#32 128#32) 0#32))
        (IntOp.cmpi .ne (IntOp.remsi .vector (BitVec.ofNat 32 n.val) (Scalar.select (Scalar.cmpi .eq 128#32 0#32) 1#32 128#32)) 0#32))
      (IntOp.addi (IntOp.remsi .vector (BitVec.ofNat 32 n.val) (Scalar.select (Scalar.cmpi .eq 128#32 0#32) 1#32 128#32))
        (Scalar.select (Scalar.cmpi .eq 128#32 0#32) 1#32 128#32))
      (IntOp.remsi .vector (BitVec.ofNat 32 n.val) (Scalar.select (Scalar.cmpi .eq 128#32 0#32) 1#32 128#32)) : BitVec 32)
      = BitVec.ofNat 32 (n.val % 128) := by
  decide +kernel

/-- A row number's quotient by 128 as the bodies compute it. -/
theorem group_word : ∀ n : Fin 1024,
    (Scalar.select
      (IntOp.andi
        (IntOp.cmpi .ne
          (IntOp.subi (BitVec.setWidth 32 (IntOp.cmpi .sgt (BitVec.ofNat 32 n.val) 0#32))
            (BitVec.setWidth 32 (IntOp.cmpi .slt (BitVec.ofNat 32 n.val) 0#32)))
          (Scalar.subi (Scalar.extui (Scalar.cmpi .sgt 128#32 0#32)) (Scalar.extui (Scalar.cmpi .slt 128#32 0#32))))
        (IntOp.cmpi .ne (IntOp.remsi .vector (BitVec.ofNat 32 n.val) 128#32) 0#32))
      (IntOp.subi (IntOp.divsi .vector (BitVec.ofNat 32 n.val) 128#32) 1#32)
      (IntOp.divsi .vector (BitVec.ofNat 32 n.val) 128#32) : BitVec 32)
      = BitVec.ofNat 32 (n.val / 128) := by
  decide +kernel

/-- A mask's entry: one where the two small numbers agree, zero elsewhere. -/
theorem mask_entry (a b : ℕ) (ha : a < 1024) (hb : b < 1024) :
    (FloatOps.sitofp (F := Ideal) .f32 (BitVec.setWidth 32 (IntOp.cmpi .eq (BitVec.ofNat 32 a) (BitVec.ofNat 32 b))) : EReal)
      = if a = b then 1 else 0 := by
  have e : BitVec.ofNat 32 a = BitVec.ofNat 32 b ↔ a = b := by
    constructor
    · intro h
      have h' := congrArg BitVec.toNat h
      simp only [BitVec.toNat_ofNat] at h'
      omega
    · rintro rfl; rfl
  by_cases h : a = b
  · subst h
    rw [if_pos rfl, show IntOp.cmpi .eq (BitVec.ofNat 32 a) (BitVec.ofNat 32 a) = 1#1 from by simp [IntOp.cmpi]]
    show (((BitVec.setWidth 32 1#1).toInt : ℝ) : EReal) = 1
    rw [show (BitVec.setWidth 32 1#1).toInt = 1 from by decide]
    simp
  · rw [if_neg h, show IntOp.cmpi .eq (BitVec.ofNat 32 a) (BitVec.ofNat 32 b) = 0#1 from by
      show BitVec.ofBool (BitVec.ofNat 32 a == BitVec.ofNat 32 b) = 0#1
      rw [beq_eq_false_iff_ne.mpr (mt e.mp h)]
      rfl]
    show (((BitVec.setWidth 32 0#1).toInt : ℝ) : EReal) = 0
    rw [show (BitVec.setWidth 32 0#1).toInt = 0 from by decide]
    simp

/-! ## The bodies' arithmetic -/

/-- The sum of squares of one row of a block. -/
def sq (X : Vec Ideal S1024x2048 .bf16) (i : Fin 1024) : EReal := ∑ k : Fin 2048, X (ix2 i k) * X (ix2 i k)

/-- Each row's sum of squares, on the lane of the row. -/
theorem pay6_at (X : Vec Ideal S1024x2048 .bf16) (i : Fin 1024) (l : Fin 128) :
    k0_pay6 X (ix2 i l) = sq X i * (if i.val % 128 = l.val then 1 else 0) := by
  pointwise [k0_pay6, k0_pay5]
  rw [lane_word i, mask_entry _ _ (by omega) (by omega)]
  rfl

/-- The packed sums of a block: entry `(r, l)` is row `128 r + l`. -/
theorem piece_at (X : Vec Ideal S1024x2048 .bf16) (r : Fin 8) (l : Fin 128) :
    piece X (ix2 r l) = sq X ⟨128 * r.val + l.val, by omega⟩ := by
  pointwise [piece, k0_pay1, k0_pay7, k0_pay8]
  have e : ∀ x : Fin 1024, (_ : EReal) = if x = (⟨128 * r.val + l.val, by omega⟩ : Fin 1024) then sq X x else 0 := fun x => by
    refine Eq.trans (congrArg₂ (· * ·) (mask_entry (x.val / 128) r.val (by omega) (by omega)) (pay6_at X x l)) ?_
    by_cases h : x = (⟨128 * r.val + l.val, by omega⟩ : Fin 1024)
    · rw [if_pos h, if_pos (by rw [h]; show (128 * r.val + l.val) / 128 = _; omega), if_pos (by rw [h]; show (128 * r.val + l.val) % 128 = _; omega), one_mul, mul_one]
    · rw [if_neg h]
      by_cases h1 : x.val / 128 = r.val
      · rw [if_neg (show ¬ x.val % 128 = l.val from fun h2 => h (Fin.ext (by show x.val = 128 * r.val + l.val; omega))), mul_zero, mul_zero]
      · rw [if_neg h1, zero_mul]
  refine (Finset.sum_congr rfl fun x _ => ?_).trans ((Finset.sum_congr rfl fun x _ => e x).trans ?_)
  · rw [group_word x]
  · rw [Finset.sum_ite_eq' Finset.univ, if_pos (Finset.mem_univ _)]

/-- The rows of the packed numbers, spread over 1024 rows. -/
theorem spread_at (R : Vec Ideal S8x128 .f32) (i : Fin 1024) (l : Fin 128) :
    k1_pay2 R (ix2 i l) = R (ix2 ⟨i.val / 128, by omega⟩ l) := by
  pointwise [k1_pay2]
  have e : ∀ x : Fin 8, (_ : EReal) = if x = (⟨i.val / 128, by omega⟩ : Fin 8) then R (ix2 x l) else 0 := fun x => by
    refine Eq.trans (congrArg (· * R (ix2 x l)) (mask_entry (i.val / 128) x.val (by omega) (by omega))) ?_
    by_cases h : x = (⟨i.val / 128, by omega⟩ : Fin 8)
    · rw [if_pos h, if_pos (by rw [h]), one_mul]
    · rw [if_neg h, if_neg (fun h2 => h (Fin.ext h2.symm)), zero_mul]
  refine (Finset.sum_congr rfl fun x _ => ?_).trans ((Finset.sum_congr rfl fun x _ => e x).trans ?_)
  · rw [group_word i]
  · rw [Finset.sum_ite_eq' Finset.univ, if_pos (Finset.mem_univ _)]

/-- The scaled block: each row times its factor, times the column weights. -/
theorem scaled_at (X : Vec Ideal S1024x2048 .bf16) (R : Vec Ideal S8x128 .f32) (G : Vec Ideal S1x2048 .bf16) (i : Fin 1024) (l : Fin 2048) :
    scaled X R G (ix2 i l)
      = X (ix2 i l) * R (ix2 ⟨i.val / 128, by omega⟩ ⟨i.val % 128, by omega⟩) * G (ix2 0 l) := by
  pointwise [scaled, k1_pay1, k1_pay3, k1_pay4, k1_pay5]
  have e : ∀ x : Fin 128, (_ : EReal) = if x = (⟨i.val % 128, by omega⟩ : Fin 128) then R (ix2 ⟨i.val / 128, by omega⟩ x) else 0 := fun x => by
    refine Eq.trans (congrArg₂ (· * ·) (spread_at R i x) (mask_entry (i.val % 128) x.val (by omega) (by omega))) ?_
    by_cases h : x = (⟨i.val % 128, by omega⟩ : Fin 128)
    · rw [if_pos h, if_pos (by rw [h]), mul_one]
    · rw [if_neg h, if_neg (fun h2 => h (Fin.ext h2.symm)), mul_zero]
  congr 2
  refine (Finset.sum_congr rfl fun x _ => ?_).trans ((Finset.sum_congr rfl fun x _ => e x).trans ?_)
  · rw [lane_word i]
  · rw [Finset.sum_ite_eq' Finset.univ, if_pos (Finset.mem_univ _)]

end Cert.KernelIdeal.Exchange

end
-- ==== Proof.Arrays.lean ====
/-
  What the arrays hold after the two calls, element by element: the copy of the rows, the packed reciprocal roots, the
  weights as a row, and the result.
-/
module

public import proofs.«01_k».proof.Proof.Segs
public import proofs.«01_k».proof.Proof.Math
public import Idealize.ShloMosaic.Lib.Pipeline.ValueKit

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem at0_0 : ∀ t : Fin cfg0.N, win0_0.index t = ![t.val, 0] := by decide +kernel
theorem at0_2 : ∀ t : Fin cfg0.N, win0_2.index t = ![t.val, 0] := by decide +kernel
theorem at1_0 : ∀ t : Fin cfg1.N, win1_0.index t = ![t.val, 0] := by decide +kernel
theorem at1_1 : ∀ t : Fin cfg1.N, win1_1.index t = ![t.val, 0] := by decide +kernel
theorem at1_2 : ∀ t : Fin cfg1.N, win1_2.index t = ![0, 0] := by decide +kernel
theorem at1_3 : ∀ t : Fin cfg1.N, win1_3.index t = ![t.val, 0] := by decide +kernel

theorem lt_8 (t : Fin cfg1.N) : t.val < 8 := lt_of_lt_of_eq t.isLt N_1

section
variable (m : (ℓ : Loc nD τ sig) → Buf (Elt F) ℓ) (c : Dev nD)

/-- The copy of the rows is the rows. -/
theorem xb_arr : (dat0 m c).arrAt 2 cfg0.N = m ((c : Thread nD τ).loc main_arg0) := by
  refine (dat0 m c).arrAt_eq_of_covers 2 _ (by decide +kernel) fun t hf y => ?_
  show shapeCast S1024x2048 (xblk m c t) shapeCasts_S1024x2048_S1024x2048 y = _
  rw [shapeCast_self]
  rfl

/-- The packed reciprocal roots. -/
theorem rout_arr : (dat0 m c).arrAt 1 cfg0.N = routF m c := by
  refine (dat0 m c).arrAt_eq_of_after_last 1 ⟨7, by decide⟩ (by decide +kernel) _ fun j => ?_
  rfl

/-- The weights, laid out as a row. -/
theorem row_arr : U2 m c (Proc.devRef .tc main_v2)
    = shapeCast S1x2048 (m ((c : Thread nD τ).loc main_arg1) : Vec F S2048 .bf16) shapeCasts_S2048_S1x2048 := by
  unfold U2
  have h : U1 m c (Proc.devRef .tc main_arg1) = m ((c : Thread nD τ).loc main_arg1) := U1_of m c main_arg1 (by decide) (by decide)
  rw [← h]
  generalize U1 m c = V
  after_results
  rfl

/-- The staging buffer of the weights holds the row at every point. -/
theorem gin_row (V : Valuation τ sig (Elt F)) (n : ℕ) (h : n < cfg1.N) : Pipeline.heldIn cfg1 (inArr V c) 2 n h = V (Proc.devRef .tc main_v2) := by
  induction n with
  | zero =>
    rw [show Pipeline.heldIn cfg1 (inArr V c) 2 0 h = _ from Pipeline.heldIn_of_fetch (inArr V c) 2 ⟨0, h⟩ (by rw [fetch1_2]; rfl)]
    generalize (⟨0, h⟩ : Fin cfg1.N) = t
    funext y
    show V (Proc.devRef .tc main_v2) ((win1_2.blk t).view.emb y) = _
    congr 1
    blk_ext [at1_2]
  | succ n ih =>
    refine (Pipeline.heldIn_of_not_fetch (inArr V c) 2 n h ?_).trans (ih _)
    refine Bool.eq_false_iff.mpr fun hf => ?_
    have := (fetch1_2 _).mp hf
    have := lt_8 ⟨n + 1, h⟩
    simp only at *
    omega

end

section
variable (m : (ℓ : Loc nD τ sig) → Buf (Elt Ideal) ℓ) (c : Dev nD)

/-- Device `c`'s rows and weights. -/
def xs (p : Dev nD) : S8192x2048.Idx → EReal := m ((p : Thread nD τ).loc main_arg0)
def gs : S2048.Idx → EReal := m ((c : Thread nD τ).loc main_arg1)

theorem xblk_at (t : Fin cfg0.N) (i : Fin 1024) (k : Fin 2048) (n : Fin 8192) (hn : n.val = 1024 * t.val + i.val) :
    xblk m c t (ix2 i k) = xs m c (ix2 n k) := by
  show xs m c ((win0_0.blk t).view.emb (ix2 i k)) = _
  congr 1
  blk_ext [at0_0]

theorem xin_at (t : Fin cfg1.N) (i : Fin 1024) (k : Fin 2048) (n : Fin 8192) (hn : n.val = 1024 * t.val + i.val) :
    xin (U2 m c) c t (ix2 i k) = xs m c (ix2 n k) := by
  have h : inArr (U2 m c) c 0 = m ((c : Thread nD τ).loc main_arg0) :=
    (U2_of m c main_v1_1 (by decide)).trans ((U1_xb m c).trans (xb_arr m c))
  unfold xin
  rw [h]
  show xs m c ((win1_0.blk t).view.emb (ix2 i k)) = _
  congr 1
  blk_ext [at1_0]

theorem rin_at (t : Fin cfg1.N) (r : Fin 8) (l : Fin 128) (n : Fin 64) (hn : n.val = 8 * t.val + r.val) :
    rin (U2 m c) c t (ix2 r l) = routF m c (ix2 n l) := by
  have h : inArr (U2 m c) c 1 = routF m c :=
    (U2_of m c main_v1_0 (by decide)).trans ((U1_rout m c).trans (rout_arr m c))
  unfold rin
  rw [h]
  show routF m c ((win1_1.blk t).view.emb (ix2 r l)) = _
  congr 1
  blk_ext [at1_1]

theorem gin_at (t : Fin cfg1.N) (k : Fin 2048) : gin (U2 m c) c t (ix2 0 k) = gs m c (ix1 k) := by
  unfold gin
  rw [gin_row, row_arr]
  exact ValueIdx.shapeCast_a_1a_apply (m ((c : Thread nD τ).loc main_arg1) : S2048.Idx → EReal) shapeCasts_S2048_S1x2048 0 k

/-- What the scaling leaves, element by element. -/
def outF : S8192x2048.Idx → EReal := fun j =>
  xs m c j * routF m c (ix2 (⟨(j 0).val / 128, by have : (j 0).val < 8192 := (j 0).isLt; omega⟩ : Fin 64) (⟨(j 0).val % 128, by omega⟩ : Fin 128)) * gs m c (ix1 (j 1))

/-- The result array, element by element. -/
theorem out_arr : (dat1 (U2 m c) c).arrAt 3 cfg1.N = outF m c := by
  refine (dat1 (U2 m c) c).arrAt_eq_of_covers 3 _ (by decide +kernel) fun t hf y => ?_
  have ht := lt_8 t
  obtain ⟨i, l, rfl⟩ : ∃ (i : Fin 1024) (l : Fin 2048), y = ix2 i l := ⟨y 0, y 1, eq_ix2 y⟩
  have e : (win1_3.blk t).view.emb (ix2 i l) = (ix2 (⟨1024 * t.val + i.val, by omega⟩ : Fin 8192) l : S8192x2048.Idx) := by
    blk_ext [at1_3]
  show scaled (xin (U2 m c) c t) (rin (U2 m c) c t) (gin (U2 m c) c t) (ix2 i l) = outF m c ((win1_3.blk t).view.emb (ix2 i l))
  rw [e, scaled_at, xin_at m c t i l ⟨1024 * t.val + i.val, by omega⟩ rfl, gin_at,
    rin_at m c t _ _ ⟨(1024 * t.val + i.val) / 128, by omega⟩ (by show (1024 * t.val + i.val) / 128 = 8 * t.val + i.val / 128; omega)]
  have e2 : (⟨i.val % 128, by omega⟩ : Fin 128) = ⟨(1024 * t.val + i.val) % 128, by omega⟩ := Fin.ext (by show i.val % 128 = (1024 * t.val + i.val) % 128; omega)
  rw [e2]
  rfl

/-- The sum of squares of row `n` on device `p`. -/
def sqs (p : Dev nD) (n : Fin 8192) : EReal := ∑ k : Fin 2048, xs m p (ix2 n k) * xs m p (ix2 n k)

theorem acc_at (n : Fin 8192) :
    accF m c (ix2 (⟨n.val / 128, by omega⟩ : Fin 64) (⟨n.val % 128, by omega⟩ : Fin 128)) = sqs m c n := by
  show piece (xblk m c (tOf ⟨n.val / 128, by omega⟩)) (ix2 (rOf ⟨n.val / 128, by omega⟩) ⟨n.val % 128, by omega⟩) = _
  rw [piece_at]
  refine Finset.sum_congr rfl fun k _ => ?_
  rw [xblk_at m c (tOf ⟨n.val / 128, by omega⟩) _ k n (by
    show n.val = 1024 * (n.val / 128 / 8) + (128 * (n.val / 128 % 8) + n.val % 128); omega)]

theorem word_is : ∀ (c : Dev nD) (p : Fin 4), Scalar.cmpi .eq (idw c) (BitVec.ofNat 32 p.val) = if p = c then 1#1 else 0#1 := by decide +kernel

theorem pick_at (p : Fin 4) (x : EReal) : Scalar.select (Scalar.cmpi .eq (idw c) (BitVec.ofNat 32 p.val)) 0 x = if p = c then 0 else x := by
  rw [word_is]
  by_cases h : p = c
  · rw [if_pos h, if_pos h]; rfl
  · rw [if_neg h, if_neg h]; rfl

/-- The four devices' sums, added. -/
theorem total_at (A : Fin 4 → S64x128.Idx → EReal) (i : Fin 64) (l : Fin 128) :
    (total c (A c) (slotV (F := Ideal) A) (ix2 i l) : EReal) = A 0 (ix2 i l) + A 1 (ix2 i l) + A 2 (ix2 i l) + A 3 (ix2 i l) := by
  have e : (total c (A c) (slotV (F := Ideal) A) (ix2 i l) : EReal)
      = A c (ix2 i l) + (if 0 = c then 0 else A 0 (ix2 i l)) + (if 1 = c then 0 else A 1 (ix2 i l))
        + (if 2 = c then 0 else A 2 (ix2 i l)) + (if 3 = c then 0 else A 3 (ix2 i l)) := by
    pointwise [total, k0_pay3, k0_pay4]
    rw [← pick_at c 0, ← pick_at c 1, ← pick_at c 2, ← pick_at c 3]
    rfl
  rw [e]
  fin_cases c
  · simp
  · simp; abel
  · simp; abel
  · simp; abel

/-- The reciprocal roots, row by row. -/
theorem rout_at (n : Fin 8192) :
    (routF m c (ix2 (⟨n.val / 128, by omega⟩ : Fin 64) (⟨n.val % 128, by omega⟩ : Fin 128)) : EReal)
      = Ideal.rsqrt ((sqs m 0 n + sqs m 1 n + sqs m 2 n + sqs m 3 n) * Ideal.ofBits .f32 0x39000000#32 + Ideal.ofBits .f32 0x3727C5AC#32) := by
  rw [← acc_at m 0, ← acc_at m 1, ← acc_at m 2, ← acc_at m 3, ← total_at c (accF m)]
  unfold routF
  generalize total c (accF m c) (slotV (accF m)) = T
  pointwise [k0_pay2]
end

end Cert.KernelIdeal.Exchange

end
-- ==== Proof.Value.lean ====
/-
  Every device's part of the kernel's result is its block of the reference's result, over the extended reals: the four
  devices' sums of squares add up to the whole row's, multiplying by the reciprocal root is dividing by the root, and the
  products agree up to order.
-/
module

public import proofs.«01_k».proof.Proof.Arrays
public import proofs.«01_k».proof.Proof.Run
public import proofs.«01_k».proof.Proof.Ref
public import Idealize.ShloMosaic.Lib.Pointwise

@[expose] public section

noncomputable section

namespace Cert.Proof

open Idealize.ShloMosaic Idealize.ShloMosaic.TcCoe Idealize.SL.Sem
open Cert.KernelIdeal.Exchange

/-! ## The scalar equation -/

/-- The three constants the programs print: the reciprocal of the row length, the row length, and the small addend. -/
theorem word_recip : Ideal.ofBits .f32 0x39000000#32 = ((1 / 8192 : ℝ) : EReal) := by
  simp [Ideal.ofBits, Ideal.ieee, -EReal.coe_mul]; norm_num
theorem word_length : Ideal.ofBits .f32 0x46000000#32 = ((8192 : ℝ) : EReal) := by
  simp [Ideal.ofBits, Ideal.ieee, -EReal.coe_mul]; norm_num
theorem word_eps : ∃ e : ℝ, 0 < e ∧ Ideal.ofBits .f32 0x3727C5AC#32 = (e : EReal) := by
  refine ⟨_, ?_, by simp [Ideal.ofBits, Ideal.ieee, -EReal.coe_mul]; rfl⟩
  norm_num

theorem mul_self_nonneg (x : EReal) : 0 ≤ x * x := by
  induction x with
  | bot => rw [EReal.bot_mul_bot]; exact le_top
  | top => rw [EReal.top_mul_top]; exact le_top
  | coe r => exact_mod_cast _root_.mul_self_nonneg r

/-- Dividing by the root is multiplying by the reciprocal root, above zero. -/
theorem div_sqrt (v y : EReal) (h : 0 < v) : Ideal.div y (Ideal.sqrt v) = y * Ideal.rsqrt v := by
  induction v with
  | bot => exact absurd h (by simp)
  | top => rw [Ideal.sqrt_top, Ideal.rsqrt_top, Ideal.div, if_neg (by simp), EReal.inv_top]
  | coe r =>
    have hr : 0 < r := by exact_mod_cast h
    rw [Ideal.sqrt_coe, Ideal.rsqrt_coe, if_neg (not_lt.mpr hr.le), if_neg (not_lt.mpr hr.le), if_neg hr.ne',
      Ideal.div_coe (Real.sqrt_pos.mpr hr).ne', one_div]

/-- The kernel's entry and the reference's, from the row's entry, the row's sum of squares and the weight. -/
theorem entry_eq (x g S : EReal) (h : 0 ≤ S) :
    x * Ideal.rsqrt (S * Ideal.ofBits .f32 0x39000000#32 + Ideal.ofBits .f32 0x3727C5AC#32) * g
      = Ideal.div (g * x) (Ideal.sqrt (Ideal.div S (Ideal.ofBits .f32 0x46000000#32) + Ideal.ofBits .f32 0x3727C5AC#32)) := by
  obtain ⟨e, he, hw⟩ := word_eps
  rw [word_recip, word_length, hw, Ideal.div_coe (by norm_num : (8192 : ℝ) ≠ 0), div_sqrt]
  · rw [mul_right_comm, mul_comm x g]
  · refine lt_of_lt_of_le (show (0 : EReal) < (e : EReal) by exact_mod_cast he) ?_
    have : (0 : EReal) ≤ S * ((1 / 8192 : ℝ) : EReal) := mul_nonneg h (by exact_mod_cast (by norm_num : (0:ℝ) ≤ 1 / 8192))
    exact le_add_of_nonneg_left this

/-! ## The reference's entries -/

/-- The reference's result at an entry. -/
theorem refOut_at (X : Cert.ReferenceIdeal.S8192x8192.Idx → EReal) (G : Cert.ReferenceIdeal.S8192.Idx → EReal) (n j : Fin 8192) :
    (Cert.ReferenceIdeal.Straight.refOut (F := Ideal) X G (ix2 n j) : EReal)
      = Ideal.div (G (ix1 j) * X (ix2 n j))
          (Ideal.sqrt (Ideal.div (∑ k : Fin 8192, X (ix2 n k) * X (ix2 n k)) (Ideal.ofBits .f32 0x46000000#32) + Ideal.ofBits .f32 0x3727C5AC#32)) := by
  pointwise [Cert.ReferenceIdeal.Straight.refOut, Cert.ReferenceIdeal.Straight.rms]

/-- Column `k` of device `p`'s block, in the whole array. -/
def col (p : Fin 4) (k : Fin 2048) : Fin 8192 := ⟨p.val * 2048 + k.val, by omega⟩

theorem sum_cols (f : Fin 8192 → EReal) :
    ∑ j : Fin 8192, f j = (∑ k, f (col 0 k)) + (∑ k, f (col 1 k)) + (∑ k, f (col 2 k)) + (∑ k, f (col 3 k)) := by
  rw [← Fin.sum_univ_four (fun p => ∑ k, f (col p k)), ← Fintype.sum_prod_type' (fun p k => f (col p k))]
  refine ((finProdFinEquiv (m := 4) (n := 2048)).sum_comp (fun j : Fin (4 * 2048) => f j)).symm.trans (Finset.sum_congr rfl fun x _ => ?_)
  refine congrArg f (Fin.ext ?_)
  show x.2.val + 2048 * x.1.val = x.1.val * 2048 + x.2.val
  omega

/-! ## The blocks -/

section
open Cert.KernelIdeal
variable (m : (ℓ : Loc nD τ sig) → Buf (Elt Ideal) ℓ)
  (X : Cert.ReferenceIdeal.S8192x8192.Idx → EReal) (G : Cert.ReferenceIdeal.S8192.Idx → EReal)
  (hX : ∀ c : Dev nD, xs m c = Layout.block ⟨2, ![8192, 2048]⟩ ⟨2, ![8192, 8192]⟩ 1 4 c X)
  (hG : ∀ c : Dev nD, gs m c = Layout.block ⟨1, ![2048]⟩ ⟨1, ![8192]⟩ 0 4 c G)

include hX in
theorem x_at (p : Fin 4) (n : Fin 8192) (k : Fin 2048) : xs m p (ix2 n k) = X (ix2 n (col p k)) := by
  rw [hX]
  refine congrArg X (funext fun a => Fin.ext ?_)
  match a with
  | 0 => rfl
  | 1 => rfl

include hG in
theorem g_at (p : Fin 4) (k : Fin 2048) : gs m p (ix1 k) = G (ix1 (col p k)) := by
  rw [hG]
  refine congrArg G (funext fun a => Fin.ext ?_)
  match a with
  | 0 => rfl

include hX hG in
/-- A device's part of the result is its block of the reference's result. -/
theorem out_block (c : Fin 4) :
    outF m c = Layout.block ⟨2, ![8192, 2048]⟩ ⟨2, ![8192, 8192]⟩ 1 4 c (Cert.ReferenceIdeal.Straight.refOut (F := Ideal) X G) := by
  funext j
  obtain ⟨n, l, rfl⟩ : ∃ (n : Fin 8192) (l : Fin 2048), j = ix2 n l := ⟨j 0, j 1, eq_ix2 j⟩
  have hs : sqs m 0 n + sqs m 1 n + sqs m 2 n + sqs m 3 n = ∑ k : Fin 8192, X (ix2 n k) * X (ix2 n k) := by
    rw [sum_cols]
    simp only [sqs, x_at m X hX]
  have hb : Layout.block ⟨2, ![8192, 2048]⟩ ⟨2, ![8192, 8192]⟩ 1 4 c (Cert.ReferenceIdeal.Straight.refOut (F := Ideal) X G) (by decide) (ix2 n l)
      = Cert.ReferenceIdeal.Straight.refOut (F := Ideal) X G (ix2 n (col c l)) := by
    refine congrArg (Cert.ReferenceIdeal.Straight.refOut (F := Ideal) X G) (funext fun a => Fin.ext ?_)
    match a with
    | 0 => rfl
    | 1 => rfl
  rw [hb, refOut_at, ← entry_eq _ _ _ (Finset.sum_nonneg fun k _ => mul_self_nonneg _), ← hs, ← x_at m X hX, ← g_at m G hG, ← rout_at m c n]
  rfl
end

/-- Over the extended reals the kernel's devices end with their blocks of what the reference ends with. -/
theorem same_value : Cert.algebraic_KernelIdeal_ReferenceIdeal := by
  intro m g m' g' _ h
  refine ⟨Cert.ReferenceIdeal.Straight.refOut (F := Ideal) (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run _ _ _).mono (fun r hr c => ⟨?_, (hr.1 c).1, (hr.1 c).2.1⟩) (run_main m g)
    exact (hr.1 c).2.2.trans ((out_arr m c).trans (out_block m _ _ (fun c => (h c).1) (fun c => (h c).2) c))
  · exact (θ_run _ _ _).mono (fun r hr => hr.1 0) (Cert.ReferenceIdeal.Straight.run m' g')

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import Idealize.ShloMosaic.Adequacy
public import Idealize.ShloMosaic.Init
public import proofs.«01_k».proof.Proof.Frames
public import proofs.«01_k».proof.Proof.Value

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_kernel, frame_kernelIdeal, frame_referenceIdeal, trivial, same_value⟩

end Cert.Proof

end
